-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  IdealRules.named_const.Statement Cert.KernelIdeal.κ "ninth" .f32 0x3DE38E39#32 ((9⁻¹ : ℝ) : EReal)

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v63) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S32x56x56x256 : Shape := ⟨4, ![32, 56, 56, 256]⟩
abbrev S32x29x29x256 : Shape := ⟨4, ![32, 29, 29, 256]⟩
abbrev S1x56x56x256 : Shape := ⟨4, ![1, 56, 56, 256]⟩
abbrev S1x29x29x256 : Shape := ⟨4, ![1, 29, 29, 256]⟩
abbrev S60x66x256 : Shape := ⟨3, ![60, 66, 256]⟩
abbrev S29x60x128 : Shape := ⟨3, ![29, 60, 128]⟩
abbrev S28x58x128 : Shape := ⟨3, ![28, 58, 128]⟩
abbrev S1x256 : Shape := ⟨2, ![1, 256]⟩
abbrev S1 : Shape := ⟨1, ![1]⟩
abbrev S2x66x256 : Shape := ⟨3, ![2, 66, 256]⟩
abbrev S56x8x256 : Shape := ⟨3, ![56, 8, 256]⟩
abbrev S56x2x256 : Shape := ⟨3, ![56, 2, 256]⟩
abbrev S56x56x256 : Shape := ⟨3, ![56, 56, 256]⟩
abbrev S60x58x256 : Shape := ⟨3, ![60, 58, 256]⟩
abbrev S58x58x256 : Shape := ⟨3, ![58, 58, 256]⟩
abbrev S58x2x256 : Shape := ⟨3, ![58, 2, 256]⟩
abbrev S58x56x256 : Shape := ⟨3, ![58, 56, 256]⟩
abbrev S29x2x58x256 : Shape := ⟨4, ![29, 2, 58, 256]⟩
abbrev S29x1x58x256 : Shape := ⟨4, ![29, 1, 58, 256]⟩
abbrev S29x58x256 : Shape := ⟨3, ![29, 58, 256]⟩
abbrev S28x58x256 : Shape := ⟨3, ![28, 58, 256]⟩
abbrev S58x256 : Shape := ⟨2, ![58, 256]⟩
abbrev S1x58x256 : Shape := ⟨3, ![1, 58, 256]⟩
abbrev S58x1 : Shape := ⟨2, ![58, 1]⟩
abbrev S256 : Shape := ⟨1, ![256]⟩
abbrev S1x1x256 : Shape := ⟨3, ![1, 1, 256]⟩
abbrev S1x1x1 : Shape := ⟨3, ![1, 1, 1]⟩
abbrev S1x56x56x128 : Shape := ⟨4, ![1, 56, 56, 128]⟩
abbrev S56x56x128 : Shape := ⟨3, ![56, 56, 128]⟩
abbrev S2x56x128 : Shape := ⟨3, ![2, 56, 128]⟩
abbrev S58x56x128 : Shape := ⟨3, ![58, 56, 128]⟩
abbrev S60x56x128 : Shape := ⟨3, ![60, 56, 128]⟩
abbrev S60x2x128 : Shape := ⟨3, ![60, 2, 128]⟩
abbrev S60x58x128 : Shape := ⟨3, ![60, 58, 128]⟩
abbrev S60x60x128 : Shape := ⟨3, ![60, 60, 128]⟩
abbrev S30x2x60x128 : Shape := ⟨4, ![30, 2, 60, 128]⟩
abbrev S30x1x60x128 : Shape := ⟨4, ![30, 1, 60, 128]⟩
abbrev S30x60x128 : Shape := ⟨3, ![30, 60, 128]⟩
abbrev S29x29x128 : Shape := ⟨3, ![29, 29, 128]⟩
abbrev S28x60x128 : Shape := ⟨3, ![28, 60, 128]⟩
abbrev S28x28x128 : Shape := ⟨3, ![28, 28, 128]⟩
abbrev S1x28x128 : Shape := ⟨3, ![1, 28, 128]⟩
abbrev S29x28x128 : Shape := ⟨3, ![29, 28, 128]⟩
abbrev S29x1x128 : Shape := ⟨3, ![29, 1, 128]⟩
abbrev S1x29x29x128 : Shape := ⟨4, ![1, 29, 29, 128]⟩

abbrev nBuf : Space → Nat
  | .hbm => 2
  | .vmem => 9
  | .smem => 1
  | _ => 0

abbrev bufTy : (tb : Table) → Fin (tcTables nBuf tb) → BufTy
  | .hbm, ⟨0, _⟩ => ⟨S32x56x56x256, .f32⟩
  | .hbm, ⟨1, _⟩ => ⟨S32x29x29x256, .f32⟩
  | .local _ .vmem, ⟨0, _⟩ => ⟨S1x56x56x256, .f32⟩
  | .local _ .vmem, ⟨1, _⟩ => ⟨S1x56x56x256, .f32⟩
  | .local _ .vmem, ⟨2, _⟩ => ⟨S1x29x29x256, .f32⟩
  | .local _ .vmem, ⟨3, _⟩ => ⟨S1x29x29x256, .f32⟩
  | .local _ .vmem, ⟨4, _⟩ => ⟨S60x66x256, .f32⟩
  | .local _ .vmem, ⟨5, _⟩ => ⟨S29x60x128, .f32⟩
  | .local _ .vmem, ⟨6, _⟩ => ⟨S29x60x128, .f32⟩
  | .local _ .vmem, ⟨7, _⟩ => ⟨S28x58x128, .f32⟩
  | .local _ .vmem, ⟨8, _⟩ => ⟨S1x256, .f32⟩
  | .local _ .smem, ⟨0, _⟩ => ⟨S1, .f32⟩
  | _, _ => ⟨S32x56x56x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .smem, ⟨0, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_scratch0 : Ref sig .tc := ⟨.vmem, 4, rfl⟩
abbrev cc0_scratch1 : Ref sig .tc := ⟨.vmem, 5, rfl⟩
abbrev cc0_scratch2 : Ref sig .tc := ⟨.vmem, 6, rfl⟩
abbrev cc0_scratch3 : Ref sig .tc := ⟨.vmem, 7, rfl⟩
abbrev cc0_scratch4 : Ref sig .tc := ⟨.vmem, 8, rfl⟩
abbrev cc0_scratch5 : Ref sig .tc := ⟨.smem, 0, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![64], ![false]⟩

def k0_cond2 (i : grid0.Coords) : BitVec 1 :=
  let arg0 : BitVec 32 := BitVec.ofNat 32 (i 0).val
  let c32_i32_0 : BitVec 32 := 32#32
  let v3 : BitVec 1 := Scalar.cmpi .sge arg0 c32_i32_0
  let v4 : BitVec 32 := Scalar.extui v3
  let c0_i32_1 : BitVec 32 := 0#32
  let v5 : BitVec 1 := Scalar.cmpi .ne v4 c0_i32_1
  v5

def cc0_transform_0 (i : grid0.Coords) : Fin 4 → Nat :=
  let arg0 : BitVec 32 := BitVec.ofNat 32 (i 0).val
  let c32_i32 : BitVec 32 := 32#32
  let v0 : BitVec 32 := Scalar.remsi arg0 c32_i32
  let c0_i32 : BitVec 32 := 0#32
  let c0_i32_0 : BitVec 32 := 0#32
  let c0_i32_1 : BitVec 32 := 0#32
  let c0_i32_2 : BitVec 32 := 0#32
  ![v0.toNat, c0_i32.toNat, c0_i32_0.toNat, c0_i32_1.toNat]

def cc0_transform_1 (i : grid0.Coords) : Fin 4 → Nat :=
  let arg0 : BitVec 32 := BitVec.ofNat 32 (i 0).val
  let c32_i32 : BitVec 32 := 32#32
  let v0 : BitVec 32 := Scalar.subi arg0 c32_i32
  let c0_i32 : BitVec 32 := 0#32
  let v1 : BitVec 32 := Scalar.maxsi v0 c0_i32
  let c0_i32_0 : BitVec 32 := 0#32
  let c0_i32_1 : BitVec 32 := 0#32
  let c0_i32_2 : BitVec 32 := 0#32
  let c0_i32_3 : BitVec 32 := 0#32
  ![v1.toNat, c0_i32_0.toNat, c0_i32_1.toNat, c0_i32_2.toNat]

abbrev stage0_0 : Fin 2 → Memref sig .tc .vmem S1x56x56x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x29x29x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]
-- ==== KernelIdeal.lean ====
variable {F : FTy → Type} [FloatOps F] [Named F]
def κ : String → Option EReal := fun
  | "ninth" => some ((9⁻¹ : ℝ) : EReal)
  | _ => none
-- ==== ReferenceIdeal.lean ====
abbrev S32x56x56x256 : Shape := ⟨4, ![32, 56, 56, 256]⟩
abbrev S32x256x56x56 : Shape := ⟨4, ![32, 256, 56, 56]⟩
abbrev S_ : Shape := ⟨0, ![]⟩
abbrev S32x256x60x60 : Shape := ⟨4, ![32, 256, 60, 60]⟩
abbrev S32x256x58x58 : Shape := ⟨4, ![32, 256, 58, 58]⟩
abbrev S32x256x62x62 : Shape := ⟨4, ![32, 256, 62, 62]⟩
abbrev S32x256x29x29 : Shape := ⟨4, ![32, 256, 29, 29]⟩
abbrev S1x32x256x29x29 : Shape := ⟨5, ![1, 32, 256, 29, 29]⟩
abbrev S9x32x256x29x29 : Shape := ⟨5, ![9, 32, 256, 29, 29]⟩
abbrev S32x29x29x256 : Shape := ⟨4, ![32, 29, 29, 256]⟩

abbrev nBuf : Space → Nat
  | .hbm => 75
  | .vmem => 0
  | .smem => 0
  | _ => 0

abbrev bufTy : (tb : Table) → Fin (tcTables nBuf tb) → BufTy
  | .hbm, ⟨0, _⟩ => ⟨S32x56x56x256, .f32⟩
  | .hbm, ⟨1, _⟩ => ⟨S32x256x56x56, .f32⟩
  | .hbm, ⟨2, _⟩ => ⟨S_, .i32⟩
  | .hbm, ⟨3, _⟩ => ⟨S_, .f32⟩
  | .hbm, ⟨4, _⟩ => ⟨S32x256x60x60, .f32⟩
  | .hbm, ⟨5, _⟩ => ⟨S32x256x58x58, .f32⟩
  | .hbm, ⟨6, _⟩ => ⟨S32x256x58x58, .f32⟩
  | .hbm, ⟨7, _⟩ => ⟨S32x256x58x58, .f32⟩
  | .hbm, ⟨8, _⟩ => ⟨S32x256x58x58, .f32⟩
  | .hbm, ⟨9, _⟩ => ⟨S32x256x58x58, .f32⟩
  | .hbm, ⟨10, _⟩ => ⟨S32x256x58x58, .f32⟩
  | .hbm, ⟨11, _⟩ => ⟨S32x256x58x58, .f32⟩
  | .hbm, ⟨12, _⟩ => ⟨S32x256x58x58, .f32⟩
  | .hbm, ⟨13, _⟩ => ⟨S32x256x58x58, .f32⟩
  | .hbm, ⟨14, _⟩ => ⟨S_, .f32⟩
  | .hbm, ⟨15, _⟩ => ⟨S32x256x58x58, .f32⟩
  | .hbm, ⟨16, _⟩ => ⟨S32x256x58x58, .f32⟩
  | .hbm, ⟨17, _⟩ => ⟨S_, .i32⟩
  | .hbm, ⟨18, _⟩ => ⟨S_, .f32⟩
  | .hbm, ⟨19, _⟩ => ⟨S32x256x62x62, .f32⟩
  | .hbm, ⟨20, _⟩ => ⟨S32x256x29x29, .f32⟩
  | .hbm, ⟨21, _⟩ => ⟨S32x256x29x29, .f32⟩
  | .hbm, ⟨22, _⟩ => ⟨S32x256x29x29, .f32⟩
  | .hbm, ⟨23, _⟩ => ⟨S32x256x29x29, .f32⟩
  | .hbm, ⟨24, _⟩ => ⟨S32x256x29x29, .f32⟩
  | .hbm, ⟨25, _⟩ => ⟨S32x256x29x29, .f32⟩
  | .hbm, ⟨26, _⟩ => ⟨S32x256x29x29, .f32⟩
  | .hbm, ⟨27, _⟩ => ⟨S32x256x29x29, .f32⟩
  | .hbm, ⟨28, _⟩ => ⟨S32x256x29x29, .f32⟩
  | .hbm, ⟨29, _⟩ => ⟨S32x256x29x29, .f32⟩
  | .hbm, ⟨30, _⟩ => ⟨S32x256x29x29, .f32⟩
  | .hbm, ⟨31, _⟩ => ⟨S32x256x29x29, .f32⟩
  | .hbm, ⟨32, _⟩ => ⟨S32x256x29x29, .f32⟩
  | .hbm, ⟨33, _⟩ => ⟨S32x256x29x29, .f32⟩
  | .hbm, ⟨34, _⟩ => ⟨S32x256x29x29, .f32⟩
  | .hbm, ⟨35, _⟩ => ⟨S32x256x29x29, .f32⟩
  | .hbm, ⟨36, _⟩ => ⟨S32x256x29x29, .f32⟩
  | .hbm, ⟨37, _⟩ => ⟨S32x256x29x29, .f32⟩
  | .hbm, ⟨38, _⟩ => ⟨S1x32x256x29x29, .f32⟩
  | .hbm, ⟨39, _⟩ => ⟨S1x32x256x29x29, .f32⟩
  | .hbm, ⟨40, _⟩ => ⟨S1x32x256x29x29, .f32⟩
  | .hbm, ⟨41, _⟩ => ⟨S1x32x256x29x29, .f32⟩
  | .hbm, ⟨42, _⟩ => ⟨S1x32x256x29x29, .f32⟩
  | .hbm, ⟨43, _⟩ => ⟨S1x32x256x29x29, .f32⟩
  | .hbm, ⟨44, _⟩ => ⟨S1x32x256x29x29, .f32⟩
  | .hbm, ⟨45, _⟩ => ⟨S1x32x256x29x29, .f32⟩
  | .hbm, ⟨46, _⟩ => ⟨S1x32x256x29x29, .f32⟩
  | .hbm, ⟨47, _⟩ => ⟨S9x32x256x29x29, .f32⟩
  | .hbm, ⟨48, _⟩ => ⟨S1x32x256x29x29, .f32⟩
  | .hbm, ⟨49, _⟩ => ⟨S1x32x256x29x29, .f32⟩
  | .hbm, ⟨50, _⟩ => ⟨S1x32x256x29x29, .f32⟩
  | .hbm, ⟨51, _⟩ => ⟨S1x32x256x29x29, .f32⟩
  | .hbm, ⟨52, _⟩ => ⟨S1x32x256x29x29, .f32⟩
  | .hbm, ⟨53, _⟩ => ⟨S1x32x256x29x29, .f32⟩
  | .hbm, ⟨54, _⟩ => ⟨S1x32x256x29x29, .f32⟩
  | .hbm, ⟨55, _⟩ => ⟨S1x32x256x29x29, .f32⟩
  | .hbm, ⟨56, _⟩ => ⟨S1x32x256x29x29, .f32⟩
  | .hbm, ⟨57, _⟩ => ⟨S9x32x256x29x29, .f32⟩
  | .hbm, ⟨58, _⟩ => ⟨S_, .f32⟩
  | .hbm, ⟨59, _⟩ => ⟨S32x256x29x29, .f32⟩
  | .hbm, ⟨60, _⟩ => ⟨S_, .f32⟩
  | .hbm, ⟨61, _⟩ => ⟨S32x256x29x29, .f32⟩
  | .hbm, ⟨62, _⟩ => ⟨S32x256x29x29, .f32⟩
  | .hbm, ⟨63, _⟩ => ⟨S_, .f32⟩
  | .hbm, ⟨64, _⟩ => ⟨S32x256x29x29, .f32⟩
  | .hbm, ⟨65, _⟩ => ⟨S_, .f32⟩
  | .hbm, ⟨66, _⟩ => ⟨S_, .f32⟩
  | .hbm, ⟨67, _⟩ => ⟨S_, .f32⟩
  | .hbm, ⟨68, _⟩ => ⟨S_, .f32⟩
  | .hbm, ⟨69, _⟩ => ⟨S1x32x256x29x29, .f32⟩
  | .hbm, ⟨70, _⟩ => ⟨S32x256x29x29, .f32⟩
  | .hbm, ⟨71, _⟩ => ⟨S32x256x29x29, .f32⟩
  | .hbm, ⟨72, _⟩ => ⟨S32x256x29x29, .i1⟩
  | .hbm, ⟨73, _⟩ => ⟨S32x256x29x29, .f32⟩
  | .hbm, ⟨74, _⟩ => ⟨S32x29x29x256, .f32⟩
  | _, _ => ⟨S32x56x56x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_c : Ref sig .tc := ⟨.hbm, 2, rfl⟩
abbrev main_call0_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_cst : Ref sig .tc := ⟨.hbm, 14, rfl⟩
abbrev main_v11 : Ref sig .tc := ⟨.hbm, 15, rfl⟩
abbrev main_v12 : Ref sig .tc := ⟨.hbm, 16, rfl⟩
abbrev main_c_0 : Ref sig .tc := ⟨.hbm, 17, rfl⟩
abbrev main_call1_v0 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_v31 : Ref sig .tc := ⟨.hbm, 37, rfl⟩
abbrev main_v32 : Ref sig .tc := ⟨.hbm, 38, rfl⟩
abbrev main_v33 : Ref sig .tc := ⟨.hbm, 39, rfl⟩
abbrev main_v34 : Ref sig .tc := ⟨.hbm, 40, rfl⟩
abbrev main_v35 : Ref sig .tc := ⟨.hbm, 41, rfl⟩
abbrev main_v36 : Ref sig .tc := ⟨.hbm, 42, rfl⟩
abbrev main_v37 : Ref sig .tc := ⟨.hbm, 43, rfl⟩
abbrev main_v38 : Ref sig .tc := ⟨.hbm, 44, rfl⟩
abbrev main_v39 : Ref sig .tc := ⟨.hbm, 45, rfl⟩
abbrev main_v40 : Ref sig .tc := ⟨.hbm, 46, rfl⟩
abbrev main_v41 : Ref sig .tc := ⟨.hbm, 47, rfl⟩
abbrev main_v42 : Ref sig .tc := ⟨.hbm, 48, rfl⟩
abbrev main_v43 : Ref sig .tc := ⟨.hbm, 49, rfl⟩
abbrev main_v44 : Ref sig .tc := ⟨.hbm, 50, rfl⟩
abbrev main_v45 : Ref sig .tc := ⟨.hbm, 51, rfl⟩
abbrev main_v46 : Ref sig .tc := ⟨.hbm, 52, rfl⟩
abbrev main_v47 : Ref sig .tc := ⟨.hbm, 53, rfl⟩
abbrev main_v48 : Ref sig .tc := ⟨.hbm, 54, rfl⟩
abbrev main_v49 : Ref sig .tc := ⟨.hbm, 55, rfl⟩
abbrev main_v50 : Ref sig .tc := ⟨.hbm, 56, rfl⟩
abbrev main_v51 : Ref sig .tc := ⟨.hbm, 57, rfl⟩
abbrev main_cst_1 : Ref sig .tc := ⟨.hbm, 58, rfl⟩
abbrev main_v52 : Ref sig .tc := ⟨.hbm, 59, rfl⟩
abbrev main_cst_2 : Ref sig .tc := ⟨.hbm, 60, rfl⟩
abbrev main_v53 : Ref sig .tc := ⟨.hbm, 61, rfl⟩
abbrev main_v54 : Ref sig .tc := ⟨.hbm, 62, rfl⟩
abbrev main_cst_3 : Ref sig .tc := ⟨.hbm, 63, rfl⟩
abbrev main_v55 : Ref sig .tc := ⟨.hbm, 64, rfl⟩
abbrev main_cst_4 : Ref sig .tc := ⟨.hbm, 65, rfl⟩
abbrev main_v56 : Ref sig .tc := ⟨.hbm, 66, rfl⟩
abbrev main_cst_5 : Ref sig .tc := ⟨.hbm, 67, rfl⟩
abbrev main_v57 : Ref sig .tc := ⟨.hbm, 68, rfl⟩
abbrev main_v58 : Ref sig .tc := ⟨.hbm, 69, rfl⟩
abbrev main_v59 : Ref sig .tc := ⟨.hbm, 70, rfl⟩
abbrev main_v60 : Ref sig .tc := ⟨.hbm, 71, rfl⟩
abbrev main_v61 : Ref sig .tc := ⟨.hbm, 72, rfl⟩
abbrev main_v62 : Ref sig .tc := ⟨.hbm, 73, rfl⟩
abbrev main_v63 : Ref sig .tc := ⟨.hbm, 74, rfl⟩

abbrev nD : Nat := 1
abbrev τ : Topo := Topo.v7x

variable {F : FTy → Type} [FloatOps F]
-- ==== Proof.KernelFrame.lean ====
/- The frame of the word program `Kernel`: from any memory the fused pallas_call runs to its end, leaves its argument
   as it was and every semaphore at zero. Nothing is stated of what the call computes: its scratch buffers and its output's
   staging buffer are at some contents throughout. -/
module

public import proofs.«01_k».proof.Proof.Gen.Kernel.Launch
public import proofs.«01_k».proof.Proof.Gen.Kernel.Skeleton
public import proofs.«01_k».proof.Proof.Gen.Kernel.Points
public import proofs.«01_k».proof.Proof.Gen.Kernel.Frame
public import Idealize.ShloMosaic.Lib.Pipeline.FrameBody
public import Idealize.ShloMosaic.Lib.Ring
public import Idealize.ShloMosaic.Lib.Tactic
public import Idealize.ShloMosaic.Lib.Claim

@[expose] public section

set_option maxRecDepth 16384

noncomputable section

namespace Cert.Proof.KernelFrame

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The body is in its first pass (the coordinate is below 32). -/
abbrev inPass1 (i : grid0.Coords) : Prop :=
  (Scalar.cmpi .ne (Scalar.extui (Scalar.cmpi .slt (BitVec.ofNat 32 (i 0).val) 32#32)) 0#32) = 1#1
/-- The body is in its second pass (the coordinate is 32 or more). -/
abbrev inPass2 (i : grid0.Coords) : Prop := k0_cond2 i = 1#1
/-- The body is at the second pass's first point (the coordinate is 32). -/
abbrev atStart2 (i : grid0.Coords) : Prop :=
  (Scalar.cmpi .ne (Scalar.extui (Scalar.cmpi .eq (BitVec.ofNat 32 (i 0).val) 32#32)) 0#32) = 1#1

/-- Every point is in exactly one pass. -/
theorem pass_cases : ∀ t : Fin cfg0.N, (inPass1 (grid0.coords t) ∧ ¬inPass2 (grid0.coords t))
    ∨ (¬inPass1 (grid0.coords t) ∧ inPass2 (grid0.coords t)) :=
  (by decide +kernel : ∀ t : Fin grid0.N, (inPass1 (grid0.coords t) ∧ ¬inPass2 (grid0.coords t))
    ∨ (¬inPass1 (grid0.coords t) ∧ inPass2 (grid0.coords t)))

/-- The six scratch operands, the output's staging memref among the buffers held at some contents. -/
def loose (c : Dev nD) (arg2 : Memref sig .tc .vmem S1x29x29x256 .f32) (arg3 : Memref sig .tc .vmem S60x66x256 .f32)
    (arg4 arg5 : Memref sig .tc .vmem S29x60x128 .f32) (arg6 : Memref sig .tc .vmem S28x58x128 .f32)
    (arg7 : Memref sig .tc .vmem S1x256 .f32) (arg8 : Memref sig .tc .smem S1 .f32) : sProp 𝕄 :=
  iprop((∃ d, owns (c : Thread nD τ) arg2 fullShare d) ∗ (∃ d, owns (c : Thread nD τ) arg3 fullShare d)
    ∗ (∃ d, owns (c : Thread nD τ) arg4 fullShare d) ∗ (∃ d, owns (c : Thread nD τ) arg5 fullShare d)
    ∗ (∃ d, owns (c : Thread nD τ) arg6 fullShare d) ∗ (∃ d, owns (c : Thread nD τ) arg7 fullShare d)
    ∗ (∃ d, owns (c : Thread nD τ) arg8 fullShare d))

section Body
variable (c : Dev nD) (i : grid0.Coords) (arg1 : Memref sig .tc .vmem S1x56x56x256 .f32) (harg1 : arg1.IsWhole)
  (arg2 : Memref sig .tc .vmem S1x29x29x256 .f32) (harg2 : arg2.IsWhole) (arg3 : Memref sig .tc .vmem S60x66x256 .f32) (harg3 : arg3.IsWhole)
  (arg4 : Memref sig .tc .vmem S29x60x128 .f32) (harg4 : arg4.IsWhole) (arg5 : Memref sig .tc .vmem S29x60x128 .f32) (harg5 : arg5.IsWhole)
  (arg6 : Memref sig .tc .vmem S28x58x128 .f32) (harg6 : arg6.IsWhole) (arg7 : Memref sig .tc .vmem S1x256 .f32) (harg7 : arg7.IsWhole)
  (arg8 : Memref sig .tc .smem S1 .f32) (harg8 : arg8.IsWhole)

/-- The body at a point of either pass, its input at `x0` and everything else at some contents, runs and gives the same back. -/
theorem body_runs (hc : (inPass1 i ∧ ¬inPass2 i) ∨ (¬inPass1 i ∧ inPass2 i)) (x0 : Vec F S1x56x56x256 .f32)
    (E : Set ℕ) (K : PUnit → sProp 𝕄) :
    iprop(owns (c : Thread nD τ) arg1 fullShare x0 ∗ loose c arg2 arg3 arg4 arg5 arg6 arg7 arg8
        ∗ (iprop(owns (c : Thread nD τ) arg1 fullShare x0 ∗ loose c arg2 arg3 arg4 arg5 arg6 arg7 arg8) -∗ K ⟨⟩))
      ⊢ wp frame (wpE (defs₀ (F := F)) Variants.none c none) E
          (cc0__fused_kernel i arg1 harg1 arg2 harg2 arg3 harg3 arg4 harg4 arg5 harg5 arg6 harg6 arg7 harg7 arg8 harg8) K := by
  simp only [cc0__fused_kernel_eq_skeleton]; unfold cc0__fused_kernel_skel
  simp only [k0_part1_eq_skeleton, k0_part2_eq_skeleton, k0_part3_eq_skeleton, k0_part4_eq_skeleton, k0_part5_eq_skeleton]
  unfold loose owns
  iintro ⟨⟨%f0, %hf0, H0⟩, ⟨⟨%d1, %f1, -, H1⟩, ⟨%ds0, %fs0, -, HS0⟩, ⟨%ds1, %fs1, -, HS1⟩, ⟨%ds2, %fs2, -, HS2⟩, ⟨%ds3, %fs3, -, HS3⟩, ⟨%ds4, %fs4, -, HS4⟩, ⟨%ds5, %fs5, -, HS5⟩⟩, Hk⟩
  obtain rfl := harg1.eq_unread hf0
  rcases hc with ⟨h1, h2⟩ | ⟨h1, h2⟩
  on_goal 2 => by_cases h3 : atStart2 i
  on_goal 1 => sl_exec (disch := first | sl_exact h1 | sl_exact h2)
  on_goal 2 => sl_exec (disch := first | sl_exact h1 | sl_exact h2 | sl_exact h3)
  on_goal 3 => sl_exec (disch := first | sl_exact h1 | sl_exact h2 | sl_exact h3)
  all_goals
    sl_step
    iapply Hk
    isplitl [H0]
    · iexists _; isplitr; · ipureintro; exact harg1.read_unread _
      iexact H0
    isplitl [H1]; · iexists _, _; isplitr; swap; · iexact H1
                    ipureintro; rfl
    isplitl [HS0]; · iexists _, _; isplitr; swap; · iexact HS0
                     ipureintro; rfl
    isplitl [HS1]; · iexists _, _; isplitr; swap; · iexact HS1
                     ipureintro; rfl
    isplitl [HS2]; · iexists _, _; isplitr; swap; · iexact HS2
                     ipureintro; rfl
    isplitl [HS3]; · iexists _, _; isplitr; swap; · iexact HS3
                     ipureintro; rfl
    isplitl [HS4]; · iexists _, _; isplitr; swap; · iexact HS4
                     ipureintro; rfl
    iexists _, _; isplitr; swap; · iexact HS5
    ipureintro; rfl
end Body

/-! ## The pipeline's proof data -/

/-- The output window is the one whose contents are not followed. -/
abbrev forgets0 : Fin cfg0.W → Bool := fun w => w.val == 1

/-- The scratch operands as the pipeline passes them. -/
abbrev sc0 : Memref sig .tc .vmem S60x66x256 .f32 := Memref.whole cc0_scratch0
/-- The scratch array of row maxima. -/
abbrev sc1 : Memref sig .tc .vmem S29x60x128 .f32 := Memref.whole cc0_scratch1
/-- The scratch array of row sums. -/
abbrev sc2 : Memref sig .tc .vmem S29x60x128 .f32 := Memref.whole cc0_scratch2
/-- The scratch array of centre gradients. -/
abbrev sc3 : Memref sig .tc .vmem S28x58x128 .f32 := Memref.whole cc0_scratch3
/-- The scratch accumulator of column sums. -/
abbrev sc4 : Memref sig .tc .vmem S1x256 .f32 := Memref.whole cc0_scratch4
/-- The scratch cell of the threshold. -/
abbrev sc5 : Memref sig .tc .smem S1 .f32 := Memref.whole cc0_scratch5
/-- The windows' staging memrefs at point `t`. -/
abbrev st0 (t : Fin cfg0.N) : Memref sig .tc .vmem S1x56x56x256 .f32 := win0_0.stage (cfg0.slots t 0)
/-- The output's staging block at a step. -/
abbrev st1 (t : Fin cfg0.N) : Memref sig .tc .vmem S1x29x29x256 .f32 := win0_1.stage (cfg0.slots t 1)

/-- The region's invariant: the six scratch buffers and the generator register, each at something. -/
theorem inv_eq (c : Dev nD) : (Pipeline.ΦA spec0 c : sProp 𝕄)
    = iprop(iprop((∃ d, owns (c : Thread nD τ) sc0 fullShare d) ∗ (∃ d, owns (c : Thread nD τ) sc1 fullShare d)
        ∗ (∃ d, owns (c : Thread nD τ) sc2 fullShare d) ∗ (∃ d, owns (c : Thread nD τ) sc3 fullShare d)
        ∗ (∃ d, owns (c : Thread nD τ) sc4 fullShare d) ∗ (∃ d, owns (c : Thread nD τ) sc5 fullShare d)) ∗ (∃ r, prngReg c r)) := by
  unfold Pipeline.ΦA; rw [scopedRest0_eq]; simp only [sc0, sc1, sc2, sc3, sc4, sc5, owns_whole]; try rfl

/-- The proof data: the input's buffer holds its block, the output's is not followed, the invariant never changes. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, h⟩ => Pipeline.Dat.unnamed (cfg := cfg0) ⟨1, h⟩ t
  Φ _ := Pipeline.ΦA spec0 c
  q _ := fullShare
  owed _ := 0

/-- The arrays at launch. -/
theorem A_eq (c : Dev nD) (w : Fin cfg0.W) : (dats m 0 c).A w = V m c (Pipeline.arrRef spec0 w) := by
  dsimp only [dats]

/-- The input block is unchanged by a step. -/
theorem after_in (c : Dev nD) (t : Fin cfg0.N) : (dats m 0 c).after 0 t = iblk m c 0 t := by dsimp only [dats]

/-- The input's buffer holds its block at every point. -/
theorem before_in (c : Dev nD) (t : Fin cfg0.N) (d) : (dats m 0 c).before 0 t d = iblk m c 0 t :=
  before0_0_of m (dats m 0 c) (A_eq m c 0) (after_in m c) t d

set_option maxHeartbeats 1600000 in
/-- The body at any point. -/
theorem body_sound (c : Dev nD) (t : Fin cfg0.N) :
    iprop((dats m 0 c).Φ t.castSucc ∗ (dats m 0 c).owesAt () t.castSucc
      ∗ (∃ d, owns (c : Thread nD τ) (st0 t) fullShare ((dats m 0 c).before 0 t d))
      ∗ (∃ d, owns (c : Thread nD τ) (st1 t) fullShare d))
    ⊢ wp frame (wpE (defs₀ (F := F)) Variants.none c none) Set.univ (bodyAt0 t) (fun _ =>
      iprop((dats m 0 c).Φ t.succ ∗ (dats m 0 c).owesAt () t.succ ∗ (dats m 0 c).leavesExact 0 t
        ∗ (∃ d, owns (c : Thread nD τ) (st1 t) fullShare d))) := by
  unfold bodyAt0
  simp only [before_in]
  rw [show (dats m 0 c).owesAt () t.succ = (dats m 0 c).owesAt () t.castSucc from rfl,
    show (dats m 0 c).Φ t.succ = Pipeline.ΦA spec0 c from rfl, show (dats m 0 c).Φ t.castSucc = Pipeline.ΦA spec0 c from rfl, inv_eq]
  rw [show (dats m 0 c).leavesExact 0 t = owns (c : Thread nD τ) (st0 t) fullShare ((dats m 0 c).after 0 t) from by
    unfold Dat.leavesExact; rw [show cfg0.idle 0 (grid0.coords t) = false from rfl], after_in]
  iintro ⟨⟨⟨HS0, HS1, HS2, HS3, HS4, HS5⟩, Hg⟩, Ho, ⟨%d0, H0⟩, H1⟩
  iapply (body_runs c (grid0.coords t) _ _ _ _ _ _ _ _ _ _ _ _ _ _ _ _ (pass_cases t) (iblk m c 0 t) Set.univ _)
  unfold loose
  isplitl [H0]; · iexact H0
  isplitl [H1 HS0 HS1 HS2 HS3 HS4 HS5]
  · isplitl [H1]; · iexact H1
    isplitl [HS0]; · iexact HS0
    isplitl [HS1]; · iexact HS1
    isplitl [HS2]; · iexact HS2
    isplitl [HS3]; · iexact HS3
    isplitl [HS4]; · iexact HS4
    iexact HS5
  iintro ⟨H0, H1, HS0, HS1, HS2, HS3, HS4, HS5⟩
  isplitl [HS0 HS1 HS2 HS3 HS4 HS5 Hg]
  · isplitl [HS0 HS1 HS2 HS3 HS4 HS5]
    · isplitl [HS0]; · iexact HS0
      isplitl [HS1]; · iexact HS1
      isplitl [HS2]; · iexact HS2
      isplitl [HS3]; · iexact HS3
      isplitl [HS4]; · iexact HS4
      iexact HS5
    iexact Hg
  isplitl [Ho]; · iexact Ho
  isplitl [H0]; · iexact H0
  iexact H1

/-- The body table's row at point `t`'s slots. -/
theorem row_eq (t : Fin cfg0.N) : defs₀ (F := F) .tc cfg0.body (cfg0.bodyArgs t (cfg0.slots t)) = bodyAt0 t := by
  unfold defs₀; rw [Defs.onTc_tc]

/-- The body obligation at every point. -/
theorem obligation (c : Dev nD) :
    BodyObligation (dats (F := F) m 0 c) (defs₀ (F := F)) Variants.none () Set.univ forgets0 := fun t => by
  rw [bigSep_W0, bigSep_W0, row_eq]
  exact triple_restated (body_sound m c t) rfl .rfl fun _ => .rfl

set_option backward.isDefEq.respectTransparency.types false in
/-- The launch: every run of @main ends, with the input arrays as they were and the counters at zero. -/
theorem run_main : θ_run defs (onTc (τ := τ) (main (F := F))) (s₀ m ρ)
    (fun r => (Pipeline.RDat.FramePost (cfgs 0) (fun c => (dats m 0 c).toRForget forgets0) (V m)) r ∧ r.2.sem = fun _ => 0) :=
  Pipeline.θ_run_frame_track_forget (Q' := _) cfgs (dats m) (0 : Fin 1) launch0 defs₀ Variants.none forgets0 m ρ main
    (hbody := fun c => (obligation m c).loose) (hshare := fun c => (dats m 0 c).share_full fun _ => rfl)
    (howed := fun _ _ => rfl) (V := V m) (hmain := hmain m Variants.none) (hA := A_eq m)
    (hin := fun _ => Idealize.SL.BI.Entails.refl _) (hout := fun _ => Idealize.SL.BI.Entails.refl _)

/-- The frame: the argument ends as it was launched, and every semaphore counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0))
      ∧ r.2.sem = fun _ => 0) :=
  (θ_run defs _ _).mono (fun r h => ⟨fun c => (Pipeline.RDat.FramePost.arr_in h.1 c 0 rfl).trans ((A_eq m c 0).trans (V_main_arg0 m c)), h.2⟩) (run_main m ρ)

end Cert.Proof.KernelFrame

end
-- ==== Proof.IdealRun.lean ====
/- What the body of the fused pallas_call leaves in each buffer, at every float instance. The first pass leaves a step
   of the accumulator (`accStep`), the second pass's first point leaves the threshold (`threshold`) and every point of the
   second pass leaves the two channel halves of its output block (`outPieces`). -/
module

public import proofs.«01_k».proof.Proof.Gen.KernelIdeal.Launch
public import proofs.«01_k».proof.Proof.Gen.KernelIdeal.Skeleton
public import proofs.«01_k».proof.Proof.Gen.KernelIdeal.Points
public import proofs.«01_k».proof.Proof.Gen.KernelIdeal.Frame
public import Idealize.ShloMosaic.Lib.Pipeline.FrameBody
public import Idealize.ShloMosaic.Lib.Ring
public import Idealize.ShloMosaic.Lib.WholeRead
public import Idealize.ShloMosaic.Lib.Pipeline.Value
public import Idealize.ShloMosaic.Lib.Tactic
public import Idealize.ShloMosaic.Lib.Claim

@[expose] public section

set_option maxRecDepth 16384

noncomputable section

namespace Cert.Proof.IdealRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-- The body is in its first pass (the coordinate is below 32). -/
abbrev inPass1 (i : grid0.Coords) : Prop :=
  (Scalar.cmpi .ne (Scalar.extui (Scalar.cmpi .slt (BitVec.ofNat 32 (i 0).val) 32#32)) 0#32) = 1#1
/-- The body is in its second pass (the coordinate is 32 or more). -/
abbrev inPass2 (i : grid0.Coords) : Prop := k0_cond2 i = 1#1
/-- The body is at the second pass's first point (the coordinate is 32). -/
abbrev atStart2 (i : grid0.Coords) : Prop :=
  (Scalar.cmpi .ne (Scalar.extui (Scalar.cmpi .eq (BitVec.ofNat 32 (i 0).val) 32#32)) 0#32) = 1#1

/-- Every point is in exactly one pass. -/
theorem pass_cases : ∀ t : Fin cfg0.N, (inPass1 (grid0.coords t) ∧ ¬inPass2 (grid0.coords t))
    ∨ (¬inPass1 (grid0.coords t) ∧ inPass2 (grid0.coords t)) :=
  (by decide +kernel : ∀ t : Fin grid0.N, (inPass1 (grid0.coords t) ∧ ¬inPass2 (grid0.coords t))
    ∨ (¬inPass1 (grid0.coords t) ∧ inPass2 (grid0.coords t)))

/-! ## The values -/

/-- The first pass's padded image: the writes that fill it, last first. -/
abbrev imgPieces (x0 : Vec F S1x56x56x256 .f32) : List (View.Piece (Elt F) S60x66x256 .f32) :=
  [⟨Rect.unit ![2, 8, 0] S56x56x256.size inb_S60x66x256_S56x56x256_2_8_0, k0_pay8 x0⟩,
    ⟨Rect.unit ![2, 64, 0] S56x2x256.size inb_S60x66x256_S56x2x256_2_64_0, k0_pay7⟩,
    ⟨Rect.unit ![2, 0, 0] S56x8x256.size inb_S60x66x256_S56x8x256_2_0_0, k0_pay6⟩,
    ⟨Rect.unit ![58, 0, 0] S2x66x256.size inb_S60x66x256_S2x66x256_58_0_0, k0_pay5⟩,
    ⟨Rect.unit ![0, 0, 0] S2x66x256.size inb_S60x66x256_S2x66x256_0_0_0, k0_pay4⟩]

/-- The part of it the pass reads. -/
def imgRead (x0 : Vec F S1x56x56x256 .f32) : Vec F S60x58x256 .f32 := fun j =>
  View.canon (imgPieces x0) ((Rect.unit (s := S60x66x256) ![0, 8, 0] S60x58x256.size inb_S60x66x256_S60x58x256_0_8_0).toLoadRect.idx j)

/-- The weighted sums of the gradient's rows, one per column and channel. -/
def rowSums (x0 : Vec F S1x56x56x256 .f32) : FVec F S58x256 .f32 :=
  k0_pay12 (k0_pay9 (imgRead x0)) (k0_pay10 (imgRead x0)) (k0_pay11 (imgRead x0))

/-- One step of the accumulator at point `i`, from the block `x0` and the accumulator `acc`. -/
def accStep (i : grid0.Coords) (x0 : Vec F S1x56x56x256 .f32) (acc : Vec F S1x256 .f32) : Vec F S1x256 .f32 :=
  k0_pay1 i (rowSums x0) k0_pay13 k0_pay14 k0_pay15 (Scalar.ofBits .f32 0x3F800000#32) acc

/-- The threshold, from the accumulator the first pass leaves. -/
abbrev threshold (acc : Vec F S1x256 .f32) : F .f32 := k0_pay16 acc

/-- The lower and the upper half of a block's channels. -/
def lower (x0 : Vec F S1x56x56x256 .f32) : Vec F S1x56x56x128 .f32 := fun j =>
  x0 ((Rect.unit (s := S1x56x56x256) ![0, 0, 0, 0] S1x56x56x128.size inb_S1x56x56x256_S1x56x56x128_0_0_0_0).toLoadRect.idx j)
/-- The upper half of a block's channels. -/
def upper (x0 : Vec F S1x56x56x256 .f32) : Vec F S1x56x56x128 .f32 := fun j =>
  x0 ((Rect.unit (s := S1x56x56x256) ![0, 0, 0, 128] S1x56x56x128.size inb_S1x56x56x256_S1x56x56x128_0_0_0_128).toLoadRect.idx j)

/-- Every second column of the row scratch, from column zero. -/
def col0 (v : Vec F S29x60x128 .f32) : Vec F S29x29x128 .f32 := fun j =>
  v ((⟨![0, 0, 0], S29x29x128.size, ![1, 2, 1], inb_S29x60x128_S29x29x128_0_0_0_s_1_2_1⟩ : LoadRect S29x60x128).idx j)
/-- Every second column of the row scratch, from column one. -/
def col1 (v : Vec F S29x60x128 .f32) : Vec F S29x29x128 .f32 := fun j =>
  v ((⟨![0, 1, 0], S29x29x128.size, ![1, 2, 1], inb_S29x60x128_S29x29x128_0_1_0_s_1_2_1⟩ : LoadRect S29x60x128).idx j)
/-- Every second column of the row scratch, from column two. -/
def col2 (v : Vec F S29x60x128 .f32) : Vec F S29x29x128 .f32 := fun j =>
  v ((⟨![0, 2, 0], S29x29x128.size, ![1, 2, 1], inb_S29x60x128_S29x29x128_0_2_0_s_1_2_1⟩ : LoadRect S29x60x128).idx j)
/-- Every second column of the gradient's odd rows, from column 1. -/
def odd (v : Vec F S28x58x128 .f32) : Vec F S28x28x128 .f32 := fun j =>
  v ((⟨![0, 1, 0], S28x28x128.size, ![1, 2, 1], inb_S28x58x128_S28x28x128_0_1_0_s_1_2_1⟩ : LoadRect S28x58x128).idx j)

/-- The lower half of the output block, from the lower half of the input block. -/
def outLower (t : F .f32) (v : Vec F S1x56x56x128 .f32) : FVec F S1x29x29x128 .f32 :=
  k0_pay26 t (col0 (k0_pay23 v)) (col1 (k0_pay23 v)) (col2 (k0_pay23 v)) (col0 (k0_pay24 v)) (col1 (k0_pay24 v)) (col2 (k0_pay24 v))
    (odd (k0_pay25 (k0_pay19 v)))
/-- The upper half of the output block, from the upper half of the input block. -/
def outUpper (t : F .f32) (v : Vec F S1x56x56x128 .f32) : FVec F S1x29x29x128 .f32 :=
  k0_pay3 t (k0_pay35 (col0 (k0_pay33 v)) (col1 (k0_pay33 v)) (col2 (k0_pay33 v))) (col0 (k0_pay34 v)) (col1 (k0_pay34 v)) (col2 (k0_pay34 v))
    (odd (k0_pay2 (k0_pay29 v)))

/-- The two writes that fill the output block, last first. -/
def outPieces (t : F .f32) (x0 : Vec F S1x56x56x256 .f32) : List (View.Piece (Elt F) S1x29x29x256 .f32) :=
  [⟨Rect.unit ![0, 0, 0, 128] S1x29x29x128.size inb_S1x29x29x256_S1x29x29x128_0_0_0_128, outUpper t (upper x0)⟩,
    ⟨Rect.unit ![0, 0, 0, 0] S1x29x29x128.size inb_S1x29x29x256_S1x29x29x128_0_0_0_0, outLower t (lower x0)⟩]

/-- They fill it. -/
theorem outPieces_cover (t : F .f32) (x0 : Vec F S1x56x56x256 .f32) (y : S1x29x29x256.Idx) : ∃ p ∈ outPieces t x0, y ∈ p.1.set :=
  View.cover_of_tiledL (outPieces t x0) S1x29x29x128.size (by unfold outPieces; sl_kernel_rfl) y

/-- The zero offset, in two dimensions. -/
theorem off2 : (![0, 0] : Fin S1x256.rank → ℕ) = fun _ => 0 := by decide
/-- The zero offset, in three dimensions. -/
theorem off3 : (![0, 0, 0] : Fin 3 → ℕ) = fun _ => 0 := by decide
/-- The zero offset, in four dimensions. -/
theorem off4 : (![0, 0, 0, 0] : Fin 4 → ℕ) = fun _ => 0 := by decide

/-- The whole-block rectangle covers a buffer. -/
theorem whole_cover {S : Shape} {e : EltTy} {off : Fin S.rank → ℕ} (h : off = fun _ => 0) (inb : ∀ a, off a + S.size a ≤ S.size a)
    (w : S.Idx → Elt F e) (L : List (View.Piece (Elt F) S e)) (y : S.Idx) :
    ∃ p ∈ ((⟨Rect.unit off S.size inb, w⟩ : View.Piece (Elt F) S e) :: L), y ∈ p.1.set :=
  ⟨_, List.mem_cons_self .., View.mem_set_unit_zero h inb y⟩

/-- A load of a whole buffer held at `X` reads `X`. -/
theorem readAt_all {κ : Kind} {sp : Space} {S : Shape} {e : EltTy} {mr : Memref sig κ sp S e} (h : mr.IsWhole) {off : Fin S.rank → ℕ}
    (h0 : off = fun _ => 0) (inb : ∀ a, off a + S.size a ≤ S.size a) (X : S.Idx → Elt F e) :
    View.readAt (Elt F) mr.view (Rect.unit off S.size inb).toLoadRect (h.unread X) = X :=
  (funext fun j => h.readAt_unread X _ j).trans (View.ld_unit_zero h0 inb X)

/-- A load of a buffer just filled with `w` reads `w`. -/
theorem readCov_filled {κ : Kind} {sp : Space} {S : Shape} {e : EltTy} (v : View sig κ sp S e) {off : Fin S.rank → ℕ}
    (h0 : off = fun _ => 0) (inb : ∀ a, off a + S.size a ≤ S.size a) (w : S.Idx → Elt F e) (L : List (View.Piece (Elt F) S e))
    (B : LoadRect S) : v.readCov ((⟨Rect.unit off S.size inb, w⟩ : View.Piece (Elt F) S e) :: L) B = fun j => w (B.idx j) := by
  rw [View.readCov_eq_canon', View.canon_cons_unit_zero h0]

/-- Reading back a whole store to a row scratch. -/
theorem readCov_rows {κ : Kind} {sp : Space} (v : View sig κ sp S29x60x128 .f32) (w : FVec F S29x60x128 .f32)
    (L : List (View.Piece (Elt F) S29x60x128 .f32)) (B : LoadRect S29x60x128) :
    v.readCov ((⟨Rect.unit ![0, 0, 0] ![29, 60, 128] inb_S29x60x128_S29x60x128_0_0_0, w⟩ : View.Piece (Elt F) S29x60x128 .f32) :: L) B
      = fun j => w (B.idx j) := readCov_filled v off3 inb_S29x60x128_S29x60x128_0_0_0 w L B

/-- Reading back a whole store to the centre scratch. -/
theorem readCov_centers {κ : Kind} {sp : Space} (v : View sig κ sp S28x58x128 .f32) (w : FVec F S28x58x128 .f32)
    (L : List (View.Piece (Elt F) S28x58x128 .f32)) (B : LoadRect S28x58x128) :
    v.readCov ((⟨Rect.unit ![0, 0, 0] ![28, 58, 128] inb_S28x58x128_S28x58x128_0_0_0, w⟩ : View.Piece (Elt F) S28x58x128 .f32) :: L) B
      = fun j => w (B.idx j) := readCov_filled v off3 inb_S28x58x128_S28x58x128_0_0_0 w L B

section Body
variable (c : Dev nD) (i : grid0.Coords) (arg1 : Memref sig .tc .vmem S1x56x56x256 .f32) (harg1 : arg1.IsWhole)
  (arg2 : Memref sig .tc .vmem S1x29x29x256 .f32) (harg2 : arg2.IsWhole) (arg3 : Memref sig .tc .vmem S60x66x256 .f32) (harg3 : arg3.IsWhole)
  (arg4 : Memref sig .tc .vmem S29x60x128 .f32) (harg4 : arg4.IsWhole) (arg5 : Memref sig .tc .vmem S29x60x128 .f32) (harg5 : arg5.IsWhole)
  (arg6 : Memref sig .tc .vmem S28x58x128 .f32) (harg6 : arg6.IsWhole) (arg7 : Memref sig .tc .vmem S1x256 .f32) (harg7 : arg7.IsWhole)
  (arg8 : Memref sig .tc .smem S1 .f32) (harg8 : arg8.IsWhole)

/-- A point of the first pass, run: the writes it leaves in the accumulator. -/
noncomputable def run1 (h1 : inPass1 i) (h2 : ¬inPass2 i) (x0 : Vec F S1x56x56x256 .f32) (acc : Vec F S1x256 .f32) :
  { L : List (View.Piece (Elt F) S1x256 .f32) // ∀ (xo : Vec F S1x29x29x256 .f32)
    (E : Set ℕ) (K : PUnit → sProp 𝕄),
    iprop(owns (c : Thread nD τ) arg1 fullShare x0 ∗ owns (c : Thread nD τ) arg2 fullShare xo ∗ (∃ d, owns (c : Thread nD τ) arg3 fullShare d)
        ∗ owns (c : Thread nD τ) arg7 fullShare acc
        ∗ (iprop(owns (c : Thread nD τ) arg1 fullShare x0 ∗ owns (c : Thread nD τ) arg2 fullShare xo ∗ (∃ d, owns (c : Thread nD τ) arg3 fullShare d)
           ∗ (∃ f, arg7.view.loc (c : Thread nD τ) ↦[arg7.view.set]{fullShare} arg7.view.writes (Elt F) f L)) -∗ K ⟨⟩))
      ⊢ wp frame (wpE (defs₀ (F := F)) Variants.none c none) E
          (cc0__fused_kernel i arg1 harg1 arg2 harg2 arg3 harg3 arg4 harg4 arg5 harg5 arg6 harg6 arg7 harg7 arg8 harg8) K } := by
  refine ⟨?_, fun xo E K => ?run⟩
  rotate_left
  simp only [cc0__fused_kernel_eq_skeleton]; unfold cc0__fused_kernel_skel
  simp only [k0_part1_eq_skeleton, k0_part2_eq_skeleton]
  unfold owns
  iintro ⟨⟨%f0, %hf0, H0⟩, ⟨%f1, %hf1, H1⟩, ⟨%ds0, %fs0, -, HS0⟩, ⟨%f4, %hf4, HS4⟩, Hk⟩
  obtain rfl := harg1.eq_unread hf0; obtain rfl := harg2.eq_unread hf1; obtain rfl := harg7.eq_unread hf4
  sl_exec (disch := first | sl_exact h1 | sl_exact h2)
  sl_step
  iapply Hk
  isplitl [H0]
  · iexists _; isplitr; · ipureintro; exact harg1.read_unread _
    iexact H0
  isplitl [H1]
  · iexists _; isplitr; · ipureintro; exact harg2.read_unread _
    iexact H1
  isplitl [HS0]; · iexists _, _; isplitr; swap; · iexact HS0
                   ipureintro; rfl
  iexists _; iexact HS4

/-- A later point of the second pass, run: the writes it leaves in the output block. -/
noncomputable def run2 (h1 : ¬inPass1 i) (h2 : inPass2 i) (h3 : ¬atStart2 i) (x0 : Vec F S1x56x56x256 .f32) (T : Vec F S1 .f32) :
  { L : List (View.Piece (Elt F) S1x29x29x256 .f32) // ∀
    (E : Set ℕ) (K : PUnit → sProp 𝕄),
    iprop(owns (c : Thread nD τ) arg1 fullShare x0 ∗ (∃ d, owns (c : Thread nD τ) arg2 fullShare d)  ∗ (∃ d, owns (c : Thread nD τ) arg4 fullShare d)
         ∗ (∃ d, owns (c : Thread nD τ) arg5 fullShare d) ∗ (∃ d, owns (c : Thread nD τ) arg6 fullShare d) ∗ owns (c : Thread nD τ) arg8 fullShare T
        ∗ (iprop(owns (c : Thread nD τ) arg1 fullShare x0 ∗ (∃ f, arg2.view.loc (c : Thread nD τ) ↦[arg2.view.set]{fullShare} arg2.view.writes (Elt F) f L)
            ∗ (∃ d, owns (c : Thread nD τ) arg4 fullShare d)
         ∗ (∃ d, owns (c : Thread nD τ) arg5 fullShare d) ∗ (∃ d, owns (c : Thread nD τ) arg6 fullShare d) ∗ owns (c : Thread nD τ) arg8 fullShare T) -∗ K ⟨⟩))
      ⊢ wp frame (wpE (defs₀ (F := F)) Variants.none c none) E
          (cc0__fused_kernel i arg1 harg1 arg2 harg2 arg3 harg3 arg4 harg4 arg5 harg5 arg6 harg6 arg7 harg7 arg8 harg8) K } := by
  refine ⟨?_, fun E K => ?run⟩
  rotate_left
  simp only [cc0__fused_kernel_eq_skeleton]; unfold cc0__fused_kernel_skel
  simp only [k0_part3_eq_skeleton, k0_part4_eq_skeleton, k0_part5_eq_skeleton]
  unfold owns
  iintro ⟨⟨%f0, %hf0, H0⟩, ⟨%d1, %f1, -, H1⟩, ⟨%ds1, %fs1, -, HS1⟩, ⟨%ds2, %fs2, -, HS2⟩, ⟨%ds3, %fs3, -, HS3⟩,  ⟨%f5, %hf5, HS5⟩, Hk⟩
  obtain rfl := harg1.eq_unread hf0; obtain rfl := harg8.eq_unread hf5
  sl_exec (disch := first | sl_exact h1 | sl_exact h2 | sl_exact h3)
  sl_step
  iapply Hk
  isplitl [H0]
  · iexists _; isplitr; · ipureintro; exact harg1.read_unread _
    iexact H0
  isplitl [H1]
  · iexists _;  iexact H1
  isplitl [HS1]; · iexists _, _; isplitr; swap; · iexact HS1
                   ipureintro; rfl
  isplitl [HS2]; · iexists _, _; isplitr; swap; · iexact HS2
                   ipureintro; rfl
  isplitl [HS3]; · iexists _, _; isplitr; swap; · iexact HS3
                   ipureintro; rfl
  iexists _; isplitr; · ipureintro; exact harg8.read_unread _
  iexact HS5

/-- The first point of the second pass, run: the writes it leaves in the output block and in the threshold. -/
noncomputable def run3 (h1 : ¬inPass1 i) (h2 : inPass2 i) (h3 : atStart2 i) (x0 : Vec F S1x56x56x256 .f32) (acc : Vec F S1x256 .f32) :
  { L : List (View.Piece (Elt F) S1x29x29x256 .f32) × List (View.Piece (Elt F) S1 .f32) // ∀
    (E : Set ℕ) (K : PUnit → sProp 𝕄),
    iprop(owns (c : Thread nD τ) arg1 fullShare x0 ∗ (∃ d, owns (c : Thread nD τ) arg2 fullShare d)  ∗ (∃ d, owns (c : Thread nD τ) arg4 fullShare d)
         ∗ (∃ d, owns (c : Thread nD τ) arg5 fullShare d) ∗ (∃ d, owns (c : Thread nD τ) arg6 fullShare d) ∗ owns (c : Thread nD τ) arg7 fullShare acc
         ∗ (∃ d, owns (c : Thread nD τ) arg8 fullShare d)
        ∗ (iprop(owns (c : Thread nD τ) arg1 fullShare x0 ∗ (∃ f, arg2.view.loc (c : Thread nD τ) ↦[arg2.view.set]{fullShare} arg2.view.writes (Elt F) f L.1)
            ∗ (∃ d, owns (c : Thread nD τ) arg4 fullShare d)
         ∗ (∃ d, owns (c : Thread nD τ) arg5 fullShare d) ∗ (∃ d, owns (c : Thread nD τ) arg6 fullShare d) ∗ owns (c : Thread nD τ) arg7 fullShare acc
         ∗ (∃ f, arg8.view.loc (c : Thread nD τ) ↦[arg8.view.set]{fullShare} arg8.view.writes (Elt F) f L.2)) -∗ K ⟨⟩))
      ⊢ wp frame (wpE (defs₀ (F := F)) Variants.none c none) E
          (cc0__fused_kernel i arg1 harg1 arg2 harg2 arg3 harg3 arg4 harg4 arg5 harg5 arg6 harg6 arg7 harg7 arg8 harg8) K } := by
  refine ⟨⟨?_, ?_⟩, fun E K => ?run⟩
  rotate_left 2
  simp only [cc0__fused_kernel_eq_skeleton]; unfold cc0__fused_kernel_skel
  simp only [k0_part3_eq_skeleton, k0_part4_eq_skeleton, k0_part5_eq_skeleton]
  unfold owns
  iintro ⟨⟨%f0, %hf0, H0⟩, ⟨%d1, %f1, -, H1⟩, ⟨%ds1, %fs1, -, HS1⟩, ⟨%ds2, %fs2, -, HS2⟩, ⟨%ds3, %fs3, -, HS3⟩, ⟨%f4, %hf4, HS4⟩, ⟨%d5, %f5, -, HS5⟩, Hk⟩
  obtain rfl := harg1.eq_unread hf0; obtain rfl := harg7.eq_unread hf4
  sl_exec (disch := first | sl_exact h1 | sl_exact h2 | sl_exact h3)
  sl_step
  iapply Hk
  isplitl [H0]
  · iexists _; isplitr; · ipureintro; exact harg1.read_unread _
    iexact H0
  isplitl [H1]
  · iexists _;  iexact H1
  isplitl [HS1]; · iexists _, _; isplitr; swap; · iexact HS1
                   ipureintro; rfl
  isplitl [HS2]; · iexists _, _; isplitr; swap; · iexact HS2
                   ipureintro; rfl
  isplitl [HS3]; · iexists _, _; isplitr; swap; · iexact HS3
                   ipureintro; rfl
  isplitl [HS4]
  · iexists _; isplitr; · ipureintro; exact harg7.read_unread _
    iexact HS4
  iexists _;  iexact HS5

/-- A step of the first pass. -/
theorem run1_val (h1 : inPass1 i) (h2 : ¬inPass2 i) (x0 : Vec F S1x56x56x256 .f32) (acc : Vec F S1x256 .f32) :
    (run1 c i arg1 harg1 arg2 harg2 arg3 harg3 arg4 harg4 arg5 harg5 arg6 harg6 arg7 harg7 arg8 harg8 h1 h2 x0 acc).1
      = [⟨Rect.unit ![0, 0] S1x256.size inb_S1x256_S1x256_0_0, accStep i x0 acc⟩] := by
  have e : run1.sl.v27 c arg1 harg1 arg3 x0 = imgRead x0 := by
    unfold run1.sl.v27 run1.sl.HS0_5
    rw [View.readCov_eq_canon', readAt_all harg1 off4]; rfl
  unfold run1 run1.sl.r_3 run1.sl.r run1.sl.r_1 run1.sl.r_2
  simp only [e]
  rw [show View.readAt (Elt F) arg7.view (Rect.unit ![0, 0] ![1, 256] inb_S1x256_S1x256_0_0).toLoadRect (harg7.unread acc) = acc from
    readAt_all harg7 off2 inb_S1x256_S1x256_0_0 acc]
  rfl

/-- A later step of the second pass. -/
theorem run2_val (h1 : ¬inPass1 i) (h2 : inPass2 i) (h3 : ¬atStart2 i) (x0 : Vec F S1x56x56x256 .f32) (t : F .f32) :
    (run2 c i arg1 harg1 arg2 harg2 arg3 harg3 arg4 harg4 arg5 harg5 arg6 harg6 arg7 harg7 arg8 harg8 h1 h2 h3 x0 (fun _ => t)).1
      = outPieces t x0 := by
  have el : View.readAt (Elt F) arg1.view (Rect.unit (s := S1x56x56x256) ![0, 0, 0, 0] S1x56x56x128.size inb_S1x56x56x256_S1x56x56x128_0_0_0_0).toLoadRect
      (harg1.unread x0) = lower x0 := funext fun j => harg1.readAt_unread x0 _ j
  have eu : View.readAt (Elt F) arg1.view (Rect.unit (s := S1x56x56x256) ![0, 0, 0, 128] S1x56x56x128.size inb_S1x56x56x256_S1x56x56x128_0_0_0_128).toLoadRect
      (harg1.unread x0) = upper x0 := funext fun j => harg1.readAt_unread x0 _ j
  unfold run2
  unfold run2.sl.r run2.sl.r_3 run2.sl.v39 run2.sl.v40 run2.sl.v41 run2.sl.v44 run2.sl.v45 run2.sl.v46 run2.sl.v65 run2.sl.v106 run2.sl.v107
    run2.sl.v108 run2.sl.v111 run2.sl.v112 run2.sl.v113 run2.sl.v132 run2.sl.HS1_1 run2.sl.HS1_2 run2.sl.HS2_1 run2.sl.HS2_2
    run2.sl.HS3_1 run2.sl.HS3_2 run2.sl.r_1 run2.sl.r_2
  simp only [el, eu, readCov_rows, readCov_centers, harg8.readAt_unread]
  rfl

/-- The first step of the second pass. -/
theorem run3_val (h1 : ¬inPass1 i) (h2 : inPass2 i) (h3 : atStart2 i) (x0 : Vec F S1x56x56x256 .f32) (acc : Vec F S1x256 .f32) :
    (run3 c i arg1 harg1 arg2 harg2 arg3 harg3 arg4 harg4 arg5 harg5 arg6 harg6 arg7 harg7 arg8 harg8 h1 h2 h3 x0 acc).1
      = (outPieces (threshold acc) x0, [⟨Rect.unit ![0] S1.size inb_S1_S1_0, fun _ => threshold acc⟩]) := by
  have el : View.readAt (Elt F) arg1.view (Rect.unit (s := S1x56x56x256) ![0, 0, 0, 0] S1x56x56x128.size inb_S1x56x56x256_S1x56x56x128_0_0_0_0).toLoadRect
      (harg1.unread x0) = lower x0 := funext fun j => harg1.readAt_unread x0 _ j
  have eu : View.readAt (Elt F) arg1.view (Rect.unit (s := S1x56x56x256) ![0, 0, 0, 128] S1x56x56x128.size inb_S1x56x56x256_S1x56x56x128_0_0_0_128).toLoadRect
      (harg1.unread x0) = upper x0 := funext fun j => harg1.readAt_unread x0 _ j
  unfold run3
  unfold run3.sl.r_1 run3.sl.r_4 run3.sl.v39 run3.sl.v40 run3.sl.v41 run3.sl.v44 run3.sl.v45 run3.sl.v46 run3.sl.v65 run3.sl.v106 run3.sl.v107
    run3.sl.v108 run3.sl.v111 run3.sl.v112 run3.sl.v113 run3.sl.v132 run3.sl.HS1_1 run3.sl.HS1_2 run3.sl.HS2_1 run3.sl.HS2_2
    run3.sl.HS3_1 run3.sl.HS3_2 run3.sl.r_2 run3.sl.r_3
  simp only [el, eu, readCov_rows, readCov_centers, readAt_all harg7 off2]
  rfl

end Body

end Cert.Proof.IdealRun

end
-- ==== Proof.IdealFrame.lean ====
/- The frame of the program `KernelIdeal`, with what it computes: from any memory the fused pallas_call runs to its end,
   leaves its argument as it was and every semaphore at zero, and its output array is the pipeline's write-back of the blocks
   `outPieces` fills, at the threshold the first pass accumulates. -/
module

public import proofs.«01_k».proof.Proof.Gen.KernelIdeal.Launch
public import proofs.«01_k».proof.Proof.Gen.KernelIdeal.Skeleton
public import proofs.«01_k».proof.Proof.Gen.KernelIdeal.Points
public import proofs.«01_k».proof.Proof.Gen.KernelIdeal.Frame
public import proofs.«01_k».proof.Proof.IdealRun
public import Idealize.ShloMosaic.Lib.Pipeline.FrameBody
public import Idealize.ShloMosaic.Lib.Ring
public import Idealize.ShloMosaic.Lib.Tactic
public import Idealize.ShloMosaic.Lib.Claim

@[expose] public section

set_option maxRecDepth 16384

noncomputable section

namespace Cert.Proof.IdealFrame

open Cert.KernelIdeal Cert.KernelIdeal.Gen Cert.Proof.IdealRun
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-! ## The three kinds of point, each with what it leaves -/

/-- The first pass is the first half of the grid. -/
theorem inPass1_iff : ∀ t : Fin cfg0.N, inPass1 (grid0.coords t) ↔ t.val < 32 :=
  (by decide +kernel : ∀ t : Fin grid0.N, inPass1 (grid0.coords t) ↔ t.val < 32)
/-- The second pass is the later half of the grid. -/
theorem inPass2_iff : ∀ t : Fin cfg0.N, inPass2 (grid0.coords t) ↔ 32 ≤ t.val :=
  (by decide +kernel : ∀ t : Fin grid0.N, inPass2 (grid0.coords t) ↔ 32 ≤ t.val)
/-- The second pass starts at grid step 32. -/
theorem atStart2_iff : ∀ t : Fin cfg0.N, atStart2 (grid0.coords t) ↔ t.val = 32 :=
  (by decide +kernel : ∀ t : Fin grid0.N, atStart2 (grid0.coords t) ↔ t.val = 32)
/-- The output window is left alone exactly in the first pass. -/
theorem idle_iff : ∀ t : Fin cfg0.N, cfg0.idle 1 (grid0.coords t) = decide (t.val < 32) :=
  (by decide +kernel : ∀ t : Fin grid0.N, cfg0.idle 1 (grid0.coords t) = decide (t.val < 32))
/-- An output block is written back at each step of the second pass. -/
theorem flush_iff : ∀ t : Fin cfg0.N, (cfg0.win 1).flush t = decide (32 ≤ t.val) :=
  (by decide +kernel : ∀ t : Fin grid0.N, (cfg0.win 1).flush t = decide (32 ≤ t.val))

section Body
variable (c : Dev nD) (i : grid0.Coords) (arg1 : Memref sig .tc .vmem S1x56x56x256 .f32) (harg1 : arg1.IsWhole)
  (arg2 : Memref sig .tc .vmem S1x29x29x256 .f32) (harg2 : arg2.IsWhole) (arg3 : Memref sig .tc .vmem S60x66x256 .f32) (harg3 : arg3.IsWhole)
  (arg4 : Memref sig .tc .vmem S29x60x128 .f32) (harg4 : arg4.IsWhole) (arg5 : Memref sig .tc .vmem S29x60x128 .f32) (harg5 : arg5.IsWhole)
  (arg6 : Memref sig .tc .vmem S28x58x128 .f32) (harg6 : arg6.IsWhole) (arg7 : Memref sig .tc .vmem S1x256 .f32) (harg7 : arg7.IsWhole)
  (arg8 : Memref sig .tc .smem S1 .f32) (harg8 : arg8.IsWhole)

/-- Writes that fill a buffer leave it at their canon. -/
theorem owns_of_writes {sp : Space} {S : Shape} {e : EltTy} (mr : Memref sig .tc sp S e) (L : List (View.Piece (Elt F) S e))
    (h : ∀ y, ∃ p ∈ L, y ∈ p.1.set) :
    (iprop(∃ f, mr.view.loc (c : Thread nD τ) ↦[mr.view.set]{fullShare} mr.view.writes (Elt F) f L) : sProp 𝕄)
      ⊢ owns (c : Thread nD τ) mr fullShare (View.canon L) := by
  unfold owns
  iintro ⟨%f, H⟩
  iexists _
  isplitr
  swap
  · iexact H
  ipureintro
  exact View.read_writes_eq_canon _ _ _ h

/-- A point of the first pass steps the accumulator. -/
theorem pass1 (h1 : inPass1 i) (h2 : ¬inPass2 i) (x0 : Vec F S1x56x56x256 .f32) (acc : Vec F S1x256 .f32)
    (xo : Vec F S1x29x29x256 .f32) (E : Set ℕ) (K : PUnit → sProp 𝕄) :
    iprop(owns (c : Thread nD τ) arg1 fullShare x0 ∗ owns (c : Thread nD τ) arg2 fullShare xo ∗ (∃ d, owns (c : Thread nD τ) arg3 fullShare d)
        ∗ owns (c : Thread nD τ) arg7 fullShare acc
        ∗ (iprop(owns (c : Thread nD τ) arg1 fullShare x0 ∗ owns (c : Thread nD τ) arg2 fullShare xo ∗ (∃ d, owns (c : Thread nD τ) arg3 fullShare d)
           ∗ owns (c : Thread nD τ) arg7 fullShare (accStep i x0 acc)) -∗ K ⟨⟩))
      ⊢ wp frame (wpE (defs₀ (F := F)) Variants.none c none) E
          (cc0__fused_kernel i arg1 harg1 arg2 harg2 arg3 harg3 arg4 harg4 arg5 harg5 arg6 harg6 arg7 harg7 arg8 harg8) K := by
  have h := (run1 c i arg1 harg1 arg2 harg2 arg3 harg3 arg4 harg4 arg5 harg5 arg6 harg6 arg7 harg7 arg8 harg8 h1 h2 x0 acc).2 xo E K
  rw [run1_val] at h
  have ho := owns_of_writes (F := F) c arg7 [⟨Rect.unit ![0, 0] S1x256.size inb_S1x256_S1x256_0_0, accStep i x0 acc⟩] (whole_cover off2 _ _ [])
  rw [View.canon_unit_zero off2] at ho
  iintro ⟨H0, H1, HS0, HS4, Hk⟩
  iapply h
  isplitl [H0]; · iexact H0
  isplitl [H1]; · iexact H1
  isplitl [HS0]; · iexact HS0
  isplitl [HS4]; · iexact HS4
  iintro ⟨H0, H1, HS0, HS4⟩
  iapply Hk
  isplitl [H0]; · iexact H0
  isplitl [H1]; · iexact H1
  isplitl [HS0]; · iexact HS0
  iapply ho
  iexact HS4

/-- A later point of the second pass fills the output block, the threshold being held. -/
theorem pass2 (h1 : ¬inPass1 i) (h2 : inPass2 i) (h3 : ¬atStart2 i) (x0 : Vec F S1x56x56x256 .f32) (t : F .f32)
    (E : Set ℕ) (K : PUnit → sProp 𝕄) :
    iprop(owns (c : Thread nD τ) arg1 fullShare x0 ∗ (∃ d, owns (c : Thread nD τ) arg2 fullShare d) ∗ (∃ d, owns (c : Thread nD τ) arg4 fullShare d)
        ∗ (∃ d, owns (c : Thread nD τ) arg5 fullShare d) ∗ (∃ d, owns (c : Thread nD τ) arg6 fullShare d) ∗ owns (c : Thread nD τ) arg8 fullShare (fun _ => t)
        ∗ (iprop(owns (c : Thread nD τ) arg1 fullShare x0 ∗ owns (c : Thread nD τ) arg2 fullShare (View.canon (outPieces t x0))
            ∗ (∃ d, owns (c : Thread nD τ) arg4 fullShare d) ∗ (∃ d, owns (c : Thread nD τ) arg5 fullShare d)
            ∗ (∃ d, owns (c : Thread nD τ) arg6 fullShare d) ∗ owns (c : Thread nD τ) arg8 fullShare (fun _ => t)) -∗ K ⟨⟩))
      ⊢ wp frame (wpE (defs₀ (F := F)) Variants.none c none) E
          (cc0__fused_kernel i arg1 harg1 arg2 harg2 arg3 harg3 arg4 harg4 arg5 harg5 arg6 harg6 arg7 harg7 arg8 harg8) K := by
  have h := (run2 c i arg1 harg1 arg2 harg2 arg3 harg3 arg4 harg4 arg5 harg5 arg6 harg6 arg7 harg7 arg8 harg8 h1 h2 h3 x0 (fun _ => t)).2 E K
  rw [run2_val] at h
  have ho := owns_of_writes (F := F) c arg2 (outPieces t x0) (outPieces_cover t x0)
  iintro ⟨H0, H1, HS1, HS2, HS3, HS5, Hk⟩
  iapply h
  isplitl [H0]; · iexact H0
  isplitl [H1]; · iexact H1
  isplitl [HS1]; · iexact HS1
  isplitl [HS2]; · iexact HS2
  isplitl [HS3]; · iexact HS3
  isplitl [HS5]; · iexact HS5
  iintro ⟨H0, H1, HS1, HS2, HS3, HS5⟩
  iapply Hk
  isplitl [H0]; · iexact H0
  isplitl [H1]
  · iapply ho
    iexact H1
  isplitl [HS1]; · iexact HS1
  isplitl [HS2]; · iexact HS2
  isplitl [HS3]; · iexact HS3
  iexact HS5

/-- The second pass's first point sets the threshold and fills the output block. -/
theorem start2 (h1 : ¬inPass1 i) (h2 : inPass2 i) (h3 : atStart2 i) (x0 : Vec F S1x56x56x256 .f32) (acc : Vec F S1x256 .f32)
    (E : Set ℕ) (K : PUnit → sProp 𝕄) :
    iprop(owns (c : Thread nD τ) arg1 fullShare x0 ∗ (∃ d, owns (c : Thread nD τ) arg2 fullShare d) ∗ (∃ d, owns (c : Thread nD τ) arg4 fullShare d)
        ∗ (∃ d, owns (c : Thread nD τ) arg5 fullShare d) ∗ (∃ d, owns (c : Thread nD τ) arg6 fullShare d) ∗ owns (c : Thread nD τ) arg7 fullShare acc
        ∗ (∃ d, owns (c : Thread nD τ) arg8 fullShare d)
        ∗ (iprop(owns (c : Thread nD τ) arg1 fullShare x0 ∗ owns (c : Thread nD τ) arg2 fullShare (View.canon (outPieces (threshold acc) x0))
            ∗ (∃ d, owns (c : Thread nD τ) arg4 fullShare d) ∗ (∃ d, owns (c : Thread nD τ) arg5 fullShare d)
            ∗ (∃ d, owns (c : Thread nD τ) arg6 fullShare d) ∗ owns (c : Thread nD τ) arg7 fullShare acc
            ∗ owns (c : Thread nD τ) arg8 fullShare (fun _ => threshold acc)) -∗ K ⟨⟩))
      ⊢ wp frame (wpE (defs₀ (F := F)) Variants.none c none) E
          (cc0__fused_kernel i arg1 harg1 arg2 harg2 arg3 harg3 arg4 harg4 arg5 harg5 arg6 harg6 arg7 harg7 arg8 harg8) K := by
  have h := (run3 c i arg1 harg1 arg2 harg2 arg3 harg3 arg4 harg4 arg5 harg5 arg6 harg6 arg7 harg7 arg8 harg8 h1 h2 h3 x0 acc).2 E K
  rw [run3_val] at h
  have ho := owns_of_writes (F := F) c arg2 (outPieces (threshold acc) x0) (outPieces_cover (threshold acc) x0)
  have e1 : (![0] : Fin S1.rank → ℕ) = fun _ => 0 := by decide
  have ht := owns_of_writes (F := F) c arg8 [⟨Rect.unit ![0] S1.size inb_S1_S1_0, fun _ => threshold acc⟩] (whole_cover e1 _ _ [])
  rw [View.canon_unit_zero e1] at ht
  iintro ⟨H0, H1, HS1, HS2, HS3, HS4, HS5, Hk⟩
  iapply h
  isplitl [H0]; · iexact H0
  isplitl [H1]; · iexact H1
  isplitl [HS1]; · iexact HS1
  isplitl [HS2]; · iexact HS2
  isplitl [HS3]; · iexact HS3
  isplitl [HS4]; · iexact HS4
  isplitl [HS5]; · iexact HS5
  iintro ⟨H0, H1, HS1, HS2, HS3, HS4, HS5⟩
  iapply Hk
  isplitl [H0]; · iexact H0
  isplitl [H1]
  · iapply ho
    iexact H1
  isplitl [HS1]; · iexact HS1
  isplitl [HS2]; · iexact HS2
  isplitl [HS3]; · iexact HS3
  isplitl [HS4]; · iexact HS4
  iapply ht
  iexact HS5
end Body

/-! ## The accumulator and the threshold -/

/-- The input block at point `t`. -/
abbrev blockAt (c : Dev nD) (t : Fin cfg0.N) : Vec F S1x56x56x256 .f32 := iblk m c 0 t

/-- The accumulator after point `n`: a step at each point of the first pass, then unchanged. -/
def accAfter (c : Dev nD) : (n : ℕ) → n < cfg0.N → Vec F S1x256 .f32
  | 0, h => accStep (grid0.coords ⟨0, h⟩) (blockAt m c ⟨0, h⟩) (fun _ => Scalar.ofBits .f32 0#32)
  | n + 1, h => if n + 1 < 32 then accStep (grid0.coords ⟨n + 1, h⟩) (blockAt m c ⟨n + 1, h⟩) (accAfter c n (by omega)) else accAfter c n (by omega)

/-- The accumulator at the end of the first pass. -/
def accEnd (c : Dev nD) : Vec F S1x256 .f32 := accAfter m c 31 (by decide)

/-- From the first pass's end the accumulator is unchanged. -/
theorem accAfter_end (c : Dev nD) (n : ℕ) (h : n < cfg0.N) (hn : 31 ≤ n) : accAfter m c n h = accEnd m c := by
  induction n with
  | zero => omega
  | succ n ih =>
    by_cases h' : n + 1 = 31
    · obtain rfl : n = 30 := by omega
      rfl
    · rw [accAfter, if_neg (by omega)]
      exact ih _ (by omega)

/-- The first point's step does not read the accumulator. -/
theorem accStep_first (i : grid0.Coords) (hi : (i 0).val = 0) (x0 : Vec F S1x56x56x256 .f32) (a a' : Vec F S1x256 .f32) :
    accStep i x0 a = accStep i x0 a' := by
  unfold accStep k0_pay1
  simp only [hi]
  rfl

/-- The first grid step has coordinate zero. -/
theorem coord_zero (h : 0 < cfg0.N) : ((grid0.coords ⟨0, h⟩) 0).val = 0 :=
  (by decide +kernel : ((grid0.coords (⟨0, by decide⟩ : Fin grid0.N)) 0).val = 0)

/-! ## The pipeline's proof data -/

/-- The scratch operands as the pipeline passes them. -/
abbrev sc0 : Memref sig .tc .vmem S60x66x256 .f32 := Memref.whole cc0_scratch0
/-- The scratch array of row maxima. -/
abbrev sc1 : Memref sig .tc .vmem S29x60x128 .f32 := Memref.whole cc0_scratch1
/-- The scratch array of row sums. -/
abbrev sc2 : Memref sig .tc .vmem S29x60x128 .f32 := Memref.whole cc0_scratch2
/-- The scratch array of centre gradients. -/
abbrev sc3 : Memref sig .tc .vmem S28x58x128 .f32 := Memref.whole cc0_scratch3
/-- The scratch accumulator of column sums. -/
abbrev sc4 : Memref sig .tc .vmem S1x256 .f32 := Memref.whole cc0_scratch4
/-- The scratch cell of the threshold. -/
abbrev sc5 : Memref sig .tc .smem S1 .f32 := Memref.whole cc0_scratch5
/-- The windows' staging memrefs at point `t`. -/
abbrev st0 (t : Fin cfg0.N) : Memref sig .tc .vmem S1x56x56x256 .f32 := win0_0.stage (cfg0.slots t 0)
/-- The output's staging block at a step. -/
abbrev st1 (t : Fin cfg0.N) : Memref sig .tc .vmem S1x29x29x256 .f32 := win0_1.stage (cfg0.slots t 1)

/-- The region's invariant: the six scratch buffers and the generator register, each at something. -/
theorem inv_eq (c : Dev nD) : (Pipeline.ΦA spec0 c : sProp 𝕄)
    = iprop(iprop((∃ d, owns (c : Thread nD τ) sc0 fullShare d) ∗ (∃ d, owns (c : Thread nD τ) sc1 fullShare d)
        ∗ (∃ d, owns (c : Thread nD τ) sc2 fullShare d) ∗ (∃ d, owns (c : Thread nD τ) sc3 fullShare d)
        ∗ (∃ d, owns (c : Thread nD τ) sc4 fullShare d) ∗ (∃ d, owns (c : Thread nD τ) sc5 fullShare d)) ∗ (∃ r, prngReg c r)) := by
  unfold Pipeline.ΦA; rw [scopedRest0_eq]; simp only [sc0, sc1, sc2, sc3, sc4, sc5, owns_whole]; try rfl

/-- The invariant before point `n`: the accumulator at what the points before left in it, the threshold once it is set,
    everything else at some contents. -/
def inv (c : Dev nD) : (n : ℕ) → n ≤ cfg0.N → sProp 𝕄
  | 0, _ => Pipeline.ΦA spec0 c
  | n + 1, hn => iprop(iprop((∃ d, owns (c : Thread nD τ) sc0 fullShare d) ∗ (∃ d, owns (c : Thread nD τ) sc1 fullShare d)
      ∗ (∃ d, owns (c : Thread nD τ) sc2 fullShare d) ∗ (∃ d, owns (c : Thread nD τ) sc3 fullShare d)
      ∗ owns (c : Thread nD τ) sc4 fullShare (accAfter m c n hn)
      ∗ (∃ d, iprop(⌜32 ≤ n → d = fun _ => threshold (accEnd m c)⌝ ∗ owns (c : Thread nD τ) sc5 fullShare d))) ∗ (∃ r, prngReg c r))

/-- The invariant after a step, in terms of the step. -/
theorem inv_succ (c : Dev nD) (n : ℕ) (hn : n + 1 ≤ cfg0.N) : inv m c (n + 1) hn
    = iprop(iprop((∃ d, owns (c : Thread nD τ) sc0 fullShare d) ∗ (∃ d, owns (c : Thread nD τ) sc1 fullShare d)
      ∗ (∃ d, owns (c : Thread nD τ) sc2 fullShare d) ∗ (∃ d, owns (c : Thread nD τ) sc3 fullShare d)
      ∗ owns (c : Thread nD τ) sc4 fullShare (accAfter m c n hn)
      ∗ (∃ d, iprop(⌜32 ≤ n → d = fun _ => threshold (accEnd m c)⌝ ∗ owns (c : Thread nD τ) sc5 fullShare d))) ∗ (∃ r, prngReg c r)) := rfl

/-- The proof data: the input's buffer holds its block, the output's what the second pass fills it with. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => View.canon (outPieces (threshold (accEnd m c)) (blockAt m c t))
  Φ t := inv m c t.val (Nat.le_of_lt_succ t.isLt)
  q _ := fullShare
  owed _ := 0

/-- The arrays at launch. -/
theorem A_eq (c : Dev nD) (w : Fin cfg0.W) : (dats m 0 c).A w = V m c (Pipeline.arrRef spec0 w) := by
  dsimp only [dats]

/-- The input block is unchanged by a step. -/
theorem after_in (c : Dev nD) (t : Fin cfg0.N) : (dats m 0 c).after 0 t = iblk m c 0 t := by dsimp only [dats]
/-- The output block after a step. -/
theorem after_out (c : Dev nD) (t : Fin cfg0.N) :
    (dats m 0 c).after 1 t = View.canon (outPieces (threshold (accEnd m c)) (blockAt m c t)) := by dsimp only [dats]

/-- The invariant before a step. -/
theorem inv_castSucc (c : Dev nD) (t : Fin cfg0.N) : (dats m 0 c).Φ t.castSucc = inv m c t.val (Nat.le_of_lt t.isLt) := by
  dsimp only [dats]; exact Pipeline.Dat.Φ_castSucc (inv m c) t

/-- The input's buffer holds its block at every point. -/
theorem before_in (c : Dev nD) (t : Fin cfg0.N) (d) : (dats m 0 c).before 0 t d = iblk m c 0 t :=
  before0_0_of m (dats m 0 c) (A_eq m c 0) (after_in m c) t d

/-- What the body is called with at point `t`, and what it gives back. -/
def bodyPre (c : Dev nD) (t : Fin cfg0.N) : sProp 𝕄 :=
  iprop((dats m 0 c).Φ t.castSucc ∗ (dats m 0 c).owesAt () t.castSucc
    ∗ (∃ d, owns (c : Thread nD τ) (st0 t) fullShare ((dats m 0 c).before 0 t d))
    ∗ (∃ d, owns (c : Thread nD τ) (st1 t) fullShare ((dats m 0 c).before 1 t d)))
/-- What a step ends with. -/
def bodyPost (c : Dev nD) (t : Fin cfg0.N) : sProp 𝕄 :=
  iprop((dats m 0 c).Φ t.succ ∗ (dats m 0 c).owesAt () t.succ ∗ (dats m 0 c).leavesExact 0 t ∗ (dats m 0 c).leavesExact 1 t)

/-- The input block as a step leaves it. -/
theorem leaves_in (c : Dev nD) (t : Fin cfg0.N) :
    (dats m 0 c).leavesExact 0 t = owns (c : Thread nD τ) (st0 t) fullShare (iblk m c 0 t) := by
  unfold Dat.leavesExact; rw [show cfg0.idle 0 (grid0.coords t) = false from rfl, after_in]

/-- The output block as a step of the second pass leaves it. -/
theorem leaves_out (c : Dev nD) (t : Fin cfg0.N) (h : 32 ≤ t.val) : (dats m 0 c).leavesExact 1 t
    = owns (c : Thread nD τ) (st1 t) fullShare (View.canon (outPieces (threshold (accEnd m c)) (blockAt m c t))) := by
  unfold Dat.leavesExact
  rw [show cfg0.idle 1 (grid0.coords t) = false from (idle_iff t).trans (decide_eq_false (by omega)), after_out]

/-- A step of the first pass owes the output block nothing. -/
theorem leaves_idle (c : Dev nD) (t : Fin cfg0.N) (h : t.val < 32) : (dats m 0 c).leavesExact 1 t
    = iprop(∃ d, owns (c : Thread nD τ) (st1 t) fullShare ((dats m 0 c).before 1 t d)) :=
  Dat.leavesExact_idle (dats m 0 c) 1 t ((idle_iff t).trans (decide_eq_true h)) ((flush_iff t).trans (decide_eq_false (by omega)))

/-- The body at a point of the first pass, the accumulator held at `a`. -/
theorem sound_pass1 (c : Dev nD) (t : Fin cfg0.N) (ht : t.val < 32) (a : Vec F S1x256 .f32)
    (ha : accAfter m c t.val t.isLt = accStep (grid0.coords t) (blockAt m c t) a) :
    iprop((iprop(iprop((∃ d, owns (c : Thread nD τ) sc0 fullShare d) ∗ (∃ d, owns (c : Thread nD τ) sc1 fullShare d)
      ∗ (∃ d, owns (c : Thread nD τ) sc2 fullShare d) ∗ (∃ d, owns (c : Thread nD τ) sc3 fullShare d)
      ∗ owns (c : Thread nD τ) sc4 fullShare a
      ∗ (∃ d, owns (c : Thread nD τ) sc5 fullShare d)) ∗ (∃ r, prngReg c r))) ∗ (dats m 0 c).owesAt () t.castSucc
      ∗ (∃ d, owns (c : Thread nD τ) (st0 t) fullShare ((dats m 0 c).before 0 t d))
      ∗ (∃ d, owns (c : Thread nD τ) (st1 t) fullShare ((dats m 0 c).before 1 t d)))
    ⊢ wp frame (wpE (defs₀ (F := F)) Variants.none c none) Set.univ (bodyAt0 t) (fun _ => bodyPost m c t) := by
  unfold bodyPost bodyAt0
  simp only [before_in]
  rw [show (dats m 0 c).owesAt () t.succ = (dats m 0 c).owesAt () t.castSucc from rfl,
    show (dats m 0 c).Φ t.succ = inv m c (t.val + 1) t.isLt from rfl, inv_succ, leaves_in, leaves_idle m c t ht, ha]
  iintro ⟨⟨⟨HS0, HS1, HS2, HS3, HS4, ⟨%d5, HS5⟩⟩, Hg⟩, Ho, ⟨%d0, H0⟩, ⟨%d1, H1⟩⟩
  iapply (pass1 c (grid0.coords t) _ _ _ _ _ _ _ _ _ _ _ _ _ _ _ _ ((inPass1_iff t).mpr ht)
    (fun h => absurd ((inPass2_iff t).mp h) (by omega)) (iblk m c 0 t) a _ Set.univ _)
  isplitl [H0]; · iexact H0
  isplitl [H1]; · iexact H1
  isplitl [HS0]; · iexact HS0
  isplitl [HS4]; · iexact HS4
  iintro ⟨H0, H1, HS0, HS4⟩
  isplitl [HS0 HS1 HS2 HS3 HS4 HS5 Hg]
  · isplitl [HS0 HS1 HS2 HS3 HS4 HS5]
    · isplitl [HS0]; · iexact HS0
      isplitl [HS1]; · iexact HS1
      isplitl [HS2]; · iexact HS2
      isplitl [HS3]; · iexact HS3
      isplitl [HS4]; · iexact HS4
      iexists d5
      isplitr
      · ipureintro; intro h; omega
      iexact HS5
    iexact Hg
  isplitl [Ho]; · iexact Ho
  isplitl [H0]; · iexact H0
  iexists d1; iexact H1

/-- The body at any point. -/
theorem sound (c : Dev nD) (t : Fin cfg0.N) :
    bodyPre m c t ⊢ wp frame (wpE (defs₀ (F := F)) Variants.none c none) Set.univ (bodyAt0 t) (fun _ => bodyPost m c t) := by
  unfold bodyPre
  rw [inv_castSucc]
  obtain ⟨n, hn⟩ := t
  cases n with
  | zero =>
    rw [show inv m c (⟨0, hn⟩ : Fin cfg0.N).val (Nat.le_of_lt hn) = Pipeline.ΦA spec0 c from rfl, inv_eq]
    iintro ⟨⟨⟨HS0, HS1, HS2, HS3, ⟨%a, HS4⟩, HS5⟩, Hg⟩, Ho, H0, H1⟩
    iapply (sound_pass1 m c ⟨0, hn⟩ (by show 0 < 32; omega) a (accStep_first _ (coord_zero hn) _ _ _))
    isplitl [HS0 HS1 HS2 HS3 HS4 HS5 Hg]
    · isplitl [HS0 HS1 HS2 HS3 HS4 HS5]
      · isplitl [HS0]; · iexact HS0
        isplitl [HS1]; · iexact HS1
        isplitl [HS2]; · iexact HS2
        isplitl [HS3]; · iexact HS3
        isplitl [HS4]; · iexact HS4
        iexact HS5
      iexact Hg
    isplitl [Ho]; · iexact Ho
    isplitl [H0]; · iexact H0
    iexact H1
  | succ n =>
    rw [show inv m c (⟨n + 1, hn⟩ : Fin cfg0.N).val (Nat.le_of_lt hn) = inv m c (n + 1) (Nat.le_of_lt hn) from rfl, inv_succ]
    by_cases ht : n + 1 < 32
    · iintro ⟨⟨⟨HS0, HS1, HS2, HS3, HS4, ⟨%d5, -, HS5⟩⟩, Hg⟩, Ho, H0, H1⟩
      iapply (sound_pass1 m c ⟨n + 1, hn⟩ ht (accAfter m c n (by omega)) (by rw [accAfter, if_pos ht]))
      isplitl [HS0 HS1 HS2 HS3 HS4 HS5 Hg]
      · isplitl [HS0 HS1 HS2 HS3 HS4 HS5]
        · isplitl [HS0]; · iexact HS0
          isplitl [HS1]; · iexact HS1
          isplitl [HS2]; · iexact HS2
          isplitl [HS3]; · iexact HS3
          isplitl [HS4]; · iexact HS4
          iexists d5; iexact HS5
        iexact Hg
      isplitl [Ho]; · iexact Ho
      isplitl [H0]; · iexact H0
      iexact H1
    · have h1 : ¬inPass1 (grid0.coords ⟨n + 1, hn⟩) := fun h => ht ((inPass1_iff ⟨n + 1, hn⟩).mp h)
      have h2 : inPass2 (grid0.coords ⟨n + 1, hn⟩) := (inPass2_iff ⟨n + 1, hn⟩).mpr (by show 32 ≤ n + 1; omega)
      unfold bodyPost bodyAt0
      simp only [before_in]
      rw [show (dats m 0 c).owesAt () (⟨n + 1, hn⟩ : Fin cfg0.N).succ = (dats m 0 c).owesAt () (⟨n + 1, hn⟩ : Fin cfg0.N).castSucc from rfl,
        show (dats m 0 c).Φ (⟨n + 1, hn⟩ : Fin cfg0.N).succ = inv m c (n + 1 + 1) hn from rfl, inv_succ, leaves_in,
        leaves_out m c ⟨n + 1, hn⟩ (by show 32 ≤ n + 1; omega), accAfter_end m c (n + 1) hn (by omega), accAfter_end m c n _ (by omega)]
      by_cases h3 : n + 1 = 32
      · iintro ⟨⟨⟨HS0, HS1, HS2, HS3, HS4, ⟨%d5, -, HS5⟩⟩, Hg⟩, Ho, ⟨%d0, H0⟩, ⟨%d1, H1⟩⟩
        iapply (start2 c (grid0.coords ⟨n + 1, hn⟩) _ _ _ _ _ _ _ _ _ _ _ _ _ _ _ _ h1 h2 ((atStart2_iff ⟨n + 1, hn⟩).mpr h3)
          (iblk m c 0 ⟨n + 1, hn⟩) (accEnd m c) Set.univ _)
        isplitl [H0]; · iexact H0
        isplitl [H1]; · iexists _; iexact H1
        isplitl [HS1]; · iexact HS1
        isplitl [HS2]; · iexact HS2
        isplitl [HS3]; · iexact HS3
        isplitl [HS4]; · iexact HS4
        isplitl [HS5]; · iexists _; iexact HS5
        iintro ⟨H0, H1, HS1, HS2, HS3, HS4, HS5⟩
        isplitl [HS0 HS1 HS2 HS3 HS4 HS5 Hg]
        · isplitl [HS0 HS1 HS2 HS3 HS4 HS5]
          · isplitl [HS0]; · iexact HS0
            isplitl [HS1]; · iexact HS1
            isplitl [HS2]; · iexact HS2
            isplitl [HS3]; · iexact HS3
            isplitl [HS4]; · iexact HS4
            iexists _
            isplitr
            swap
            · iexact HS5
            ipureintro; intro _; rfl
          iexact Hg
        isplitl [Ho]; · iexact Ho
        isplitl [H0]; · iexact H0
        iexact H1
      · iintro ⟨⟨⟨HS0, HS1, HS2, HS3, HS4, ⟨%d5, %hd, HS5⟩⟩, Hg⟩, Ho, ⟨%d0, H0⟩, ⟨%d1, H1⟩⟩
        obtain rfl := hd (by omega)
        iapply (pass2 c (grid0.coords ⟨n + 1, hn⟩) _ _ _ _ _ _ _ _ _ _ _ _ _ _ _ _ h1 h2
          (fun h => h3 ((atStart2_iff ⟨n + 1, hn⟩).mp h)) (iblk m c 0 ⟨n + 1, hn⟩) (threshold (accEnd m c)) Set.univ _)
        isplitl [H0]; · iexact H0
        isplitl [H1]; · iexists _; iexact H1
        isplitl [HS1]; · iexact HS1
        isplitl [HS2]; · iexact HS2
        isplitl [HS3]; · iexact HS3
        isplitl [HS5]; · iexact HS5
        iintro ⟨H0, H1, HS1, HS2, HS3, HS5⟩
        isplitl [HS0 HS1 HS2 HS3 HS4 HS5 Hg]
        · isplitl [HS0 HS1 HS2 HS3 HS4 HS5]
          · isplitl [HS0]; · iexact HS0
            isplitl [HS1]; · iexact HS1
            isplitl [HS2]; · iexact HS2
            isplitl [HS3]; · iexact HS3
            isplitl [HS4]; · iexact HS4
            iexists _
            isplitr
            swap
            · iexact HS5
            ipureintro; intro _; rfl
          iexact Hg
        isplitl [Ho]; · iexact Ho
        isplitl [H0]; · iexact H0
        iexact H1

/-- The body table's row at point `t`'s slots. -/
theorem row_eq (t : Fin cfg0.N) : defs₀ (F := F) .tc cfg0.body (cfg0.bodyArgs t (cfg0.slots t)) = bodyAt0 t := by
  unfold defs₀; rw [Defs.onTc_tc]

/-- The body obligation at every point. -/
theorem obligation (c : Dev nD) :
    BodyObligation (dats (F := F) m 0 c) (defs₀ (F := F)) Variants.none () Set.univ := fun t => by
  rw [bigSep_W0, bigSep_W0, row_eq]
  exact sound m c t

/-- Before the first point the invariant is what the launch hands the region. -/
theorem hin (c : Dev nD) : Pipeline.ΦA spec0 c ⊢ (dats m 0 c).Φ 0 := by
  rw [show (dats m 0 c).Φ 0 = Pipeline.ΦA spec0 c from rfl]

/-- After the last point the invariant gives the region's buffers back. -/
theorem hout (c : Dev nD) : (dats m 0 c).Φ (Fin.last cfg0.N) ⊢ Pipeline.ΦA spec0 c := by
  rw [show (dats m 0 c).Φ (Fin.last cfg0.N) = inv m c (63 + 1) (by decide) from rfl, inv_succ, inv_eq]
  iintro ⟨⟨HS0, HS1, HS2, HS3, HS4, ⟨%d5, -, HS5⟩⟩, Hg⟩
  isplitl [HS0 HS1 HS2 HS3 HS4 HS5]
  · isplitl [HS0]; · iexact HS0
    isplitl [HS1]; · iexact HS1
    isplitl [HS2]; · iexact HS2
    isplitl [HS3]; · iexact HS3
    isplitl [HS4]; · iexists _; iexact HS4
    iexists _; iexact HS5
  iexact Hg

set_option backward.isDefEq.respectTransparency.types false in
/-- The launch: every run of @main ends, with the arrays at the pipeline's values and the counters at zero. -/
theorem run_main : θ_run defs (onTc (τ := τ) (main (F := F))) (s₀ m ρ)
    (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (obligation m c).loose) (hshare := fun c => (dats m 0 c).share_full fun _ => rfl)
    (howed := fun _ _ => rfl) (V := V m) (hmain := hmain m Variants.none) (hA := A_eq m) (hin := hin m) (hout := hout m)

/-- The run, with the output array named, the argument as it was launched and every semaphore counter at zero. -/
theorem run : θ_run defs (onTc (τ := τ) (main (F := F))) ⟨m, fun _ => 0, ρ⟩ (fun r => (∀ c : Dev nD,
      r.2.mem ((c.tc : Thread nD τ).loc main_v0) = (dats m 0 c).arrAt 1 cfg0.N
      ∧ r.2.mem ((c.tc : Thread nD τ).loc main_arg0) = m ((c.tc : Thread nD τ).loc main_arg0)) ∧ r.2.sem = fun _ => 0) :=
  (θ_run defs _ _).mono (fun r h => ⟨fun c => ⟨(h.1 c).1 1,
    ((h.1 c).1 0).trans (((dats m 0 c).arrAt_in 0 rfl _).trans ((A_eq m c 0).trans (V_main_arg0 m c)))⟩, h.2⟩) (run_main m ρ)

/-- The frame: the argument ends as it was launched, and every semaphore counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0))
      ∧ r.2.sem = fun _ => 0) :=
  (θ_run defs _ _).mono (fun r h => ⟨fun c => (h.1 c).2, h.2⟩) (run m ρ)

end Cert.Proof.IdealFrame

end
-- ==== Proof.Spec.lean ====
/- The gradient-gated pooling of one padded plane, as plain arithmetic over the extended reals: what both programs are
   shown to compute. A plane is a 56×56 image of one batch entry and one channel. -/
module

public import Idealize.ShloMosaic.Lib.Pointwise

@[expose] public section

noncomputable section

namespace Cert.Proof.Spec

open Idealize.ShloMosaic

/-- A 56×56 plane. -/
abbrev Plane := Fin 56 → Fin 56 → EReal

variable (x : Plane)

/-- The plane padded by two zeros on each side. -/
def img (a b : ℕ) : EReal :=
  if h : (2 ≤ a ∧ a < 58) ∧ (2 ≤ b ∧ b < 58) then x ⟨a - 2, by omega⟩ ⟨b - 2, by omega⟩ else 0

/-- The absolute value. -/
def absE (u : EReal) : EReal := max u (-u)

/-- The gradient's magnitude: the padded image's step of two down and of two right. -/
def grad (a b : ℕ) : EReal :=
  absE (img x (a + 2) (b + 2) - img x a (b + 2)) + absE (img x (a + 2) (b + 2) - img x (a + 2) b)

/-- The maximum of three rows of output row `i` in padded column `b`. -/
def rowMax (i b : ℕ) : EReal := max (max (img x (2 * i) b) (img x (2 * i + 1) b)) (img x (2 * i + 2) b)
/-- The sum of three rows of output row `i` in padded column `b`. -/
def rowSum (i b : ℕ) : EReal := img x (2 * i) b + img x (2 * i + 1) b + img x (2 * i + 2) b

/-- The maximum of the 3×3 window at output `(i, j)`. -/
def winMax (i j : ℕ) : EReal := max (max (rowMax x i (2 * j)) (rowMax x i (2 * j + 1))) (rowMax x i (2 * j + 2))
/-- The mean of the window. -/
def winMean (i j : ℕ) : EReal := (rowSum x i (2 * j) + rowSum x i (2 * j + 1) + rowSum x i (2 * j + 2)) * ((9⁻¹ : ℝ) : EReal)

/-- The gradient at the window's centre; the first row and column of windows are centred on padding. -/
def center (i j : ℕ) : EReal := if j < 1 then 0 else if i < 1 then 0 else grad x (2 * i - 1) (2 * j - 1)

/-- The output at `(i, j)` for the threshold `t`: the maximum where the centre exceeds it, the mean elsewhere. -/
def pooled (t : EReal) (i j : ℕ) : EReal := if t < center x i j then winMax x i j else winMean x i j

/-- A column's gradients, each as often as windows cover its row. -/
def colSum (j : ℕ) : EReal :=
  2 * (∑ k : Fin 28, grad x (2 * k.val) j) + (∑ k : Fin 28, grad x (2 * k.val + 1) j) + grad x 56 j

/-- How often windows cover a column. -/
def weight (j : ℕ) : EReal := if j = 57 then 0 else if j = 56 then 1 else if j % 2 = 0 then 2 else 1

/-- The plane's sum of gradients over all windows. -/
def total : EReal := ∑ j : Fin 58, colSum x j.val * weight j.val

/-- A block's plane at a channel. -/
abbrev blockPlane {n : ℕ} (v : Vec Ideal ⟨4, ![1, 56, 56, n]⟩ .f32) (ch : Fin n) : Plane := fun a b => v (ix4 0 a b ch)

/-- The array's planes. -/
def plane (X : Vec Ideal ⟨4, ![32, 56, 56, 256]⟩ .f32) (n : Fin 32) (ch : Fin 256) : Plane := fun a b => X (ix4 n a b ch)

/-- The number of gradients in all windows. -/
def count : EReal := ((62005248 : ℝ) : EReal)

/-- The threshold: the mean gradient over all windows of all planes. -/
def thresh (X : Vec Ideal ⟨4, ![32, 56, 56, 256]⟩ .f32) : EReal :=
  Ideal.div (∑ n : Fin 32, ∑ ch : Fin 256, total (plane X n ch)) count

/-! ## The constants' words -/

/-- The word of two. -/
theorem word_two : Ideal.ofBits .f32 0x40000000#32 = 2 := by
  rw [show (2 : EReal) = ((2 : ℝ) : EReal) by norm_cast]
  simp [Ideal.ofBits, Ideal.ieee, -EReal.coe_mul]; norm_num

/-- The word of nine. -/
theorem word_nine : Ideal.ofBits .f32 0x41100000#32 = ((9 : ℝ) : EReal) := by
  simp [Ideal.ofBits, Ideal.ieee, -EReal.coe_mul]; norm_num

/-- The word of the count. -/
theorem word_count : Ideal.ofBits .f32 0x4C6C8800#32 = count := by
  unfold count
  simp [Ideal.ofBits, Ideal.ieee, -EReal.coe_mul]; norm_num

/-- The word of minus infinity. -/
theorem word_bot : Ideal.ofBits .f32 0xFF800000#32 = ⊥ := by
  simp [Ideal.ofBits, Ideal.ieee]

/-- The absolute value of the floats is `absE`. -/
theorem absf_eq (u : Ideal .f32) : FloatOps.absf u = absE u := rfl

/-- The padded image inside the plane. -/
theorem img_in {a b : ℕ} (ha : 2 ≤ a ∧ a < 58) (hb : 2 ≤ b ∧ b < 58) : img x a b = x ⟨a - 2, by omega⟩ ⟨b - 2, by omega⟩ := by
  unfold img; rw [dif_pos ⟨ha, hb⟩]
/-- The padded image outside the plane is zero. -/
theorem img_out {a b : ℕ} (h : ¬((2 ≤ a ∧ a < 58) ∧ (2 ≤ b ∧ b < 58))) : img x a b = 0 := by
  unfold img; rw [dif_neg h]

end Cert.Proof.Spec

end
-- ==== Proof.Payload.lean ====
/- The body's values, read at an index: each is the plain arithmetic of one padded plane. -/
module

public import proofs.«01_k».proof.Proof.IdealFrame
public import proofs.«01_k».proof.Proof.Spec
public import Idealize.ShloMosaic.Lib.Pointwise

@[expose] public section

set_option maxRecDepth 16384

noncomputable section

namespace Cert.Proof.Payload

open Cert.KernelIdeal Cert.KernelIdeal.Gen Cert.Proof.IdealRun Cert.Proof.Spec Idealize.ShloMosaic

/-- The integer zero the padding converts is the extended real zero. -/
theorem zero_int : (((0#32 : BitVec 32).toInt : ℝ) : EReal) = 0 := by simp

/-! ## The second pass -/

section Second
variable (v : Vec Ideal S1x56x56x128 .f32) (ch : Fin 128)

/-- The padding's nested cases are the padded image. -/
theorem nested_img (x : Plane) (a b : ℕ) : (if _h : b < 58 then if _h : b < 2 then 0 else
    if _h : a < 58 then if _h : a < 2 then 0 else x ⟨a - 2, by omega⟩ ⟨b - 2, by omega⟩ else 0 else 0) = img x a b := by
  unfold img
  split_ifs <;> first | (exfalso; omega) | rfl

/-- The padded image in pairs of rows. -/
theorem pairs (k : Fin 30) (r : Fin 2) (b : Fin 60) :
    k0_pay17 (F := Ideal) v (ix4 k r b ch) = img (blockPlane v ch) (k.val * 2 + r.val) b.val := by
  pointwise [k0_pay17, zero_int]
  exact nested_img (blockPlane v ch) _ _

/-- Its even rows. -/
theorem even_rows (k : Fin 30) (b : Fin 60) : k0_pay18 (F := Ideal) v (ix3 k b ch) = img (blockPlane v ch) (k.val * 2) b.val := by
  pointwise [k0_pay18, pairs]

/-- Its odd rows. -/
theorem odd_rows (k : Fin 30) (b : Fin 60) : k0_pay19 (F := Ideal) v (ix3 k b ch) = img (blockPlane v ch) (k.val * 2 + 1) b.val := by
  pointwise [k0_pay19, pairs]

/-- The maximum of the three rows of output row `i`. -/
theorem max_rows (i : Fin 29) (b : Fin 60) : k0_pay23 (F := Ideal) v (ix3 i b ch) = rowMax (blockPlane v ch) i.val b.val := by
  pointwise [k0_pay23, k0_pay20, k0_pay21, k0_pay22, even_rows, odd_rows]
  rw [show (1 + i.val) * 2 = 2 * i.val + 2 by omega, show i.val * 2 = 2 * i.val by omega]
  rfl

/-- The sum of the three rows of output row `i`. -/
theorem sum_rows (i : Fin 29) (b : Fin 60) : k0_pay24 (F := Ideal) v (ix3 i b ch) = rowSum (blockPlane v ch) i.val b.val := by
  pointwise [k0_pay24, k0_pay20, k0_pay21, k0_pay22, even_rows, odd_rows]
  rw [show (1 + i.val) * 2 = 2 * i.val + 2 by omega, show i.val * 2 = 2 * i.val by omega]
  rfl

/-- The gradient in an odd row. -/
theorem odd_grad (k : Fin 28) (b : Fin 58) :
    k0_pay25 (F := Ideal) (k0_pay19 v) (ix3 k b ch) = grad (blockPlane v ch) (2 * k.val + 1) b.val := by
  pointwise [k0_pay25, odd_rows, absf_eq]
  rw [show (1 + k.val) * 2 + 1 = 2 * k.val + 1 + 2 by omega, show k.val * 2 + 1 = 2 * k.val + 1 by omega, Nat.add_comm 2 b.val]
  rfl

/-- The centre the gate reads: no gradient in the first row and column, else the odd one. -/
theorem center_read (x : Plane) (i j : ℕ) : (if _h : j < 1 then 0 else if _h : i < 1 then 0 else grad x (2 * (i - 1) + 1) (1 + 2 * (j - 1))) = center x i j := by
  unfold center
  split_ifs with h h'
  · rfl
  · rfl
  · rw [show 2 * (i - 1) + 1 = 2 * i - 1 by omega, show 1 + 2 * (j - 1) = 2 * j - 1 by omega]

/-- The named constant is one ninth. -/
theorem ninth : Named.named (F := Ideal) κ (φ := .f32) "ninth" 0x3DE38E39#32 = ((9⁻¹ : ℝ) : EReal) := by
  rfl

/-- The output block's half is the pooling of its planes. -/
theorem outLower_apply (t : Ideal .f32) (i j : Fin 29) :
    outLower (F := Ideal) t v (ix4 0 i j ch) = pooled (blockPlane v ch) t i.val j.val := by
  unfold outLower
  pointwise [k0_pay26, col0, col1, col2, odd, max_rows, sum_rows, odd_grad, zero_int, center_read, ninth]
  rw [Nat.add_comm 1, Nat.add_comm 2]
  rfl

/-- The two halves are computed alike. -/
theorem outUpper_eq (t : Ideal .f32) : outUpper (F := Ideal) t v = outLower (F := Ideal) t v := rfl

end Second

end Cert.Proof.Payload

end
-- ==== Proof.PayloadSum.lean ====
/- The body's values, read at an index: each is the plain arithmetic of one padded plane. -/
module

public import proofs.«01_k».proof.Proof.IdealFrame
public import proofs.«01_k».proof.Proof.Spec
public import Idealize.ShloMosaic.Lib.Pointwise

@[expose] public section

set_option maxRecDepth 16384

noncomputable section

namespace Cert.Proof.Payload

open Cert.KernelIdeal Cert.KernelIdeal.Gen Cert.Proof.IdealRun Cert.Proof.Spec Idealize.ShloMosaic

/-! ## The first pass -/

section First
variable (x0 : Vec Ideal S1x56x56x256 .f32) (ch : Fin 256)

/-- The padded image two columns to the left; off the edge it is zero. -/
theorem left_img (x : Plane) (a j : ℕ) : (if _h : j < 2 then 0 else img x a (j - 2 + 2)) = img x a j := by
  split_ifs with h
  · rw [img_out]; omega
  · rw [show j - 2 + 2 = j by omega]

variable (h : ∀ (a : Fin 60) (b : Fin 58), imgRead (F := Ideal) x0 (ix3 a b ch) = img (blockPlane x0 ch) a.val (b.val + 2))
include h

/-- The shifted image: the pixel itself. -/
theorem at9 (a b : Fin 58) : k0_pay9 (F := Ideal) (imgRead x0) (ix3 a b ch) = img (blockPlane x0 ch) (a.val + 2) (b.val + 2) := by
  pointwise [k0_pay9, h]
  rw [Nat.add_comm 2]

/-- The shifted image: the pixel two to the left. -/
theorem at10 (a b : Fin 58) : k0_pay10 (F := Ideal) (imgRead x0) (ix3 a b ch) = img (blockPlane x0 ch) (a.val + 2) b.val := by
  pointwise [k0_pay10, at9 x0 ch h, left_img]

/-- The vertical difference. -/
theorem at11 (a b : Fin 58) : k0_pay11 (F := Ideal) (imgRead x0) (ix3 a b ch)
   = img (blockPlane x0 ch) (a.val + 2) (b.val + 2) - img (blockPlane x0 ch) a.val (b.val + 2) := by
  pointwise [k0_pay11, at9 x0 ch h, h]

omit h
/-- The gradients of a column, summed with their rows' multiplicities. -/
theorem at12 (v9 v10 v11 : FVec Ideal S58x58x256 .f32) (j : Fin 58) : k0_pay12 (F := Ideal) v9 v10 v11 (ix2 j ch)
   = 2 * (∑ k : Fin 28, (absE (v11 (ix3 ⟨k.val * 2, by omega⟩ j ch)) + absE (v9 (ix3 ⟨k.val * 2, by omega⟩ j ch) - v10 (ix3 ⟨k.val * 2, by omega⟩ j ch))))
    + (∑ k : Fin 28, (absE (v11 (ix3 ⟨k.val * 2 + 1, by omega⟩ j ch)) + absE (v9 (ix3 ⟨k.val * 2 + 1, by omega⟩ j ch) - v10 (ix3 ⟨k.val * 2 + 1, by omega⟩ j ch))))
    + (absE (v11 (ix3 56 j ch)) + absE (v9 (ix3 56 j ch) - v10 (ix3 56 j ch))) := by
  pointwise [k0_pay12, absf_eq, word_two]

/-- The row sums of a block are the column sums of its planes. -/
theorem rowSums_apply (h : ∀ (a : Fin 60) (b : Fin 58), imgRead (F := Ideal) x0 (ix3 a b ch) = img (blockPlane x0 ch) a.val (b.val + 2)) (j : Fin 58)  :
   rowSums (F := Ideal) x0 (ix2 j ch) = colSum (blockPlane x0 ch) j.val := by
  unfold rowSums
  rw [at12]
  simp only [at9 x0 ch h, at10 x0 ch h, at11 x0 ch h]
  unfold colSum grad
  simp only [Nat.mul_comm 2]
  rw [show (56 : Fin 58).val = 56 from rfl]

/-- The test for the last column. -/
theorem is57 : ∀ j : Fin 58, k0_pay13 (ix2 j 0) = if j.val = 57 then 1#1 else 0#1 := by decide +kernel

/-- The test for the last column but one. -/
theorem is56 : ∀ j : Fin 58, k0_pay14 (ix2 j 0) = if j.val = 56 then 1#1 else 0#1 := by decide +kernel

/-- The remainder by two of a column number, as the program computes it. -/
theorem parity : ∀ j : Fin 58,
        (IntOp.cmpi CmpIPredicate.eq
            (Scalar.select
              (IntOp.andi
                (IntOp.xori
                  (IntOp.cmpi CmpIPredicate.slt
                    (IntOp.remsi ArithUnit.vector (BitVec.ofNat 32 j.val)
                      (Scalar.select (Scalar.cmpi CmpIPredicate.eq 2#32 0#32) 1#32 2#32))
                    0#32)
                  (Scalar.cmpi CmpIPredicate.slt (Scalar.select (Scalar.cmpi CmpIPredicate.eq 2#32 0#32) 1#32 2#32)
                    0#32))
                (IntOp.cmpi CmpIPredicate.ne
                  (IntOp.remsi ArithUnit.vector (BitVec.ofNat 32 j.val)
                    (Scalar.select (Scalar.cmpi CmpIPredicate.eq 2#32 0#32) 1#32 2#32))
                  0#32))
              (IntOp.addi
                (IntOp.remsi ArithUnit.vector (BitVec.ofNat 32 j.val)
                  (Scalar.select (Scalar.cmpi CmpIPredicate.eq 2#32 0#32) 1#32 2#32))
                (Scalar.select (Scalar.cmpi CmpIPredicate.eq 2#32 0#32) 1#32 2#32))
              (IntOp.remsi ArithUnit.vector (BitVec.ofNat 32 j.val)
                (Scalar.select (Scalar.cmpi CmpIPredicate.eq 2#32 0#32) 1#32 2#32)))
            0#32) = if j.val % 2 = 0 then 1#1 else 0#1 := by decide +kernel

/-- The weight by parity. -/
theorem at15 (j : Fin 58) : k0_pay15 (F := Ideal) (ix2 j 0) = if j.val % 2 = 0 then 2 else 1 := by
  pointwise [k0_pay15, word_two, parity]
  by_cases h : j.val % 2 = 0
  · rw [if_pos h, if_pos h]; rfl
  · rw [if_neg h, if_neg h]; rfl

/-- The selected weight is `weight`. -/
theorem sel_weight (u : EReal) (j : Fin 58) : Scalar.select (k0_pay13 (ix2 j 0)) 0 (u * Scalar.select (k0_pay14 (ix2 j 0)) 1 (k0_pay15 (F := Ideal) (ix2 j 0)))
   = u * weight j.val := by
  rw [is57, is56, at15]
  unfold weight
  by_cases h7 : j.val = 57
  · rw [if_pos h7, if_pos h7, mul_zero]; rfl
  rw [if_neg h7, if_neg h7]
  by_cases h6 : j.val = 56
  · rw [if_pos h6, if_pos h6]; rfl
  · rw [if_neg h6, if_neg h6]; rfl

/-- The test for the first grid step. -/
theorem firstPoint (i : grid0.Coords) : Scalar.cmpi .eq (BitVec.ofNat 32 (i 0).val) 0#32 = if (i 0).val = 0 then 1#1 else 0#1 := by
  have : ∀ k : Fin 64, Scalar.cmpi .eq (BitVec.ofNat 32 k.val) 0#32 = if k.val = 0 then 1#1 else 0#1 := by decide +kernel
  exact this (i 0)

/-- A step of the first pass adds its plane's total, the first one starting from zero. -/
theorem accStep_apply (i : grid0.Coords) (acc : Vec Ideal S1x256 .f32)  (hr : ∀ j : Fin 58, rowSums (F := Ideal) x0 (ix2 j ch) = colSum (blockPlane x0 ch) j.val) :
   accStep (F := Ideal) i x0 acc (ix2 0 ch) = if (i 0).val = 0 then total (blockPlane x0 ch) else acc (ix2 0 ch) + total (blockPlane x0 ch) := by
  unfold accStep
  generalize rowSums (F := Ideal) x0 = r at hr ⊢
  pointwise [k0_pay1, sel_weight, hr, firstPoint]
  by_cases h0 : (i 0).val = 0
  · rw [if_pos h0, if_pos h0]; rfl
  · rw [if_neg h0, if_neg h0]; rfl

/-- The threshold is the accumulated sum by the count. -/
theorem threshold_apply (acc : Vec Ideal S1x256 .f32) : threshold (F := Ideal) acc = Ideal.div (∑ ch : Fin 256, acc (ix2 0 ch)) count := by
  unfold threshold
  pointwise [k0_pay16, word_count]
  simp

end First
end Cert.Proof.Payload

end
-- ==== Proof.KernelValue.lean ====
/- What the fused pallas_call leaves in its output array at the extended reals: the pooling of every plane at the mean
   gradient of all windows. -/
module

public import proofs.«01_k».proof.Proof.Payload
public import proofs.«01_k».proof.Proof.PayloadSum
public import Idealize.ShloMosaic.Lib.Pipeline.ValueKit.Point

@[expose] public section

set_option maxRecDepth 16384

noncomputable section

namespace Cert.Proof.KernelValue

open Cert.KernelIdeal Cert.KernelIdeal.Gen Cert.Proof.IdealRun Cert.Proof.IdealFrame Cert.Proof.Spec Cert.Proof.Payload
open Idealize.ShloMosaic Idealize.ShloMosaic.TcCoe Idealize.SL.Sem
open Idealize.ShloMosaic.Pipeline (Dat)

/-! ## The two buffers filled by pieces -/

/-- The first pass's padded image as one function of the index: the plane starts at column 8. -/
def padded (x0 : Vec Ideal S1x56x56x256 .f32) : Vec Ideal S60x66x256 .f32 := fun y => img (blockPlane x0 (y 2)) (y 0).val ((y 1).val - 6)

/-- Where a rectangle places an index. -/
theorem emb_eq {s : Shape} (r : Rect s) (x : r.shape.Idx) : r.emb x = r.toLoadRect.idx x := rfl

/-- A piece of zeros agrees with it off the plane. -/
theorem zero_piece (x0 : Vec Ideal S1x56x56x256 .f32) (y : S60x66x256.Idx)
    (h : ¬((2 ≤ (y 0).val ∧ (y 0).val < 58) ∧ 2 ≤ (y 1).val - 6 ∧ (y 1).val - 6 < 58)) : padded x0 y = 0 := img_out _ h

/-- Every piece agrees with it. -/
theorem pieces_agree (x0 : Vec Ideal S1x56x56x256 .f32) : ∀ p ∈ imgPieces (F := Ideal) x0, ∀ x : p.1.shape.Idx, p.2 x = padded x0 (p.1.emb x) := by
  intro p hp
  simp only [imgPieces, List.mem_cons, List.not_mem_nil, or_false] at hp
  rcases hp with rfl | rfl | rfl | rfl | rfl <;> intro x
  · obtain ⟨a, b, ch, rfl⟩ : ∃ (a b : Fin 56) (ch : Fin 256), x = ix3 a b ch := ⟨x 0, x 1, x 2, eq_ix3 x⟩
    dsimp only
    rw [emb_eq]
    pointwise [k0_pay8, padded]
    rw [img_in _ (by omega) (by omega), show (⟨2 + a.val - 2, by omega⟩ : Fin 56) = a from Fin.ext (by simp),
      show (⟨8 + b.val - 6 - 2, by omega⟩ : Fin 56) = b from Fin.ext (by simp; omega)]
  · have h1 : (x 1).val < 2 := (x 1).isLt
    dsimp only
    rw [emb_eq]
    pointwise [k0_pay7]
    exact (zero_piece x0 _ (by pointwise; omega)).symm
  · have h1 : (x 1).val < 8 := (x 1).isLt
    dsimp only
    rw [emb_eq]
    pointwise [k0_pay6]
    exact (zero_piece x0 _ (by pointwise; omega)).symm
  · dsimp only
    rw [emb_eq]
    pointwise [k0_pay5]
    exact (zero_piece x0 _ fun hh => absurd hh.1.2 (by show ¬58 + (x 0).val < 58; omega)).symm
  · have h0 : (x 0).val < 2 := (x 0).isLt
    dsimp only
    rw [emb_eq]
    pointwise [k0_pay4]
    exact (zero_piece x0 _ fun hh => absurd hh.1.1 (by show ¬2 ≤ (x 0).val; omega)).symm

/-- Membership in a box of the image. -/
theorem mem_box {o0 o1 s0 s1 : ℕ} (inb : ∀ a, (![o0, o1, 0] : Fin 3 → ℕ) a + (![s0, s1, 256] : Fin 3 → ℕ) a ≤ S60x66x256.size a)
    (y : S60x66x256.Idx) (h0 : o0 ≤ (y 0).val ∧ (y 0).val < o0 + s0) (h1 : o1 ≤ (y 1).val ∧ (y 1).val < o1 + s1) :
    y ∈ (Rect.unit (s := S60x66x256) ![o0, o1, 0] ![s0, s1, 256] inb).set := by
  have h2 : 0 ≤ (y 2).val ∧ (y 2).val < 0 + 256 := ⟨Nat.zero_le _, by simpa using (y 2).isLt⟩
  refine Rect.mem_set_unit.mpr fun k => ?_
  match k with
  | ⟨0, _⟩ => exact h0
  | ⟨1, _⟩ => exact h1
  | ⟨2, _⟩ => exact h2

/-- From column 8 on, the pieces cover the image. -/
theorem image_cover (x0 : Vec Ideal S1x56x56x256 .f32) (y : S60x66x256.Idx) (h : 8 ≤ (y 1).val) :
    ∃ p ∈ imgPieces (F := Ideal) x0, y ∈ p.1.set := by
  have h0 : (y 0).val < 60 := (y 0).isLt
  have h1 : (y 1).val < 66 := (y 1).isLt
  by_cases a2 : (y 0).val < 2
  · exact ⟨_, .tail _ (.tail _ (.tail _ (.tail _ (.head _)))), mem_box inb_S60x66x256_S2x66x256_0_0_0 y (by omega) (by omega)⟩
  by_cases a58 : 58 ≤ (y 0).val
  · exact ⟨_, .tail _ (.tail _ (.tail _ (.head _))), mem_box inb_S60x66x256_S2x66x256_58_0_0 y (by omega) (by omega)⟩
  by_cases b64 : 64 ≤ (y 1).val
  · exact ⟨_, .tail _ (.head _), mem_box inb_S60x66x256_S56x2x256_2_64_0 y (by omega) (by omega)⟩
  · exact ⟨_, .head _, mem_box inb_S60x66x256_S56x56x256_2_8_0 y (by omega) (by omega)⟩

/-- The part of the first pass's image that it reads. -/
theorem imgRead_apply (x0 : Vec Ideal S1x56x56x256 .f32) (a : Fin 60) (b : Fin 58) (ch : Fin 256) :
    imgRead (F := Ideal) x0 (ix3 a b ch) = img (blockPlane x0 ch) a.val (b.val + 2) := by
  unfold imgRead
  rw [View.canon_apply_of_pieces (padded x0) _ (pieces_agree x0)]
  · pointwise [padded]
    rw [show 8 + b.val - 6 = b.val + 2 by omega]
  · refine image_cover x0 _ ?_
    pointwise

/-- A channel of the upper and of the lower half. -/
theorem upper_plane (x0 : Vec Ideal S1x56x56x256 .f32) (ch : Fin 128) : blockPlane (upper (F := Ideal) x0) ch = blockPlane x0 ⟨128 + ch.val, by omega⟩ := by
  funext a b
  pointwise [upper]
/-- The lower half of a block has the block's planes. -/
theorem lower_plane (x0 : Vec Ideal S1x56x56x256 .f32) (ch : Fin 128) : blockPlane (lower (F := Ideal) x0) ch = blockPlane x0 ⟨ch.val, by omega⟩ := by
  funext a b
  pointwise [lower]

/-- The output block. -/
theorem out_apply (t : Ideal .f32) (x0 : Vec Ideal S1x56x56x256 .f32) (y : S1x29x29x256.Idx) :
    View.canon (outPieces (F := Ideal) t x0) y = pooled (blockPlane x0 (y 3)) t (y 1).val (y 2).val := by
  refine View.canon_apply_of_pieces (fun y => pooled (blockPlane x0 (y 3)) t (y 1).val (y 2).val) _ ?_ y (outPieces_cover t x0 y)
  intro p hp
  simp only [outPieces, List.mem_cons, List.not_mem_nil, or_false] at hp
  rcases hp with rfl | rfl <;> intro x
  all_goals
    obtain ⟨n, i, j, ch, rfl⟩ : ∃ (n : Fin 1) (i j : Fin 29) (ch : Fin 128), x = ix4 n i j ch := ⟨x 0, x 1, x 2, x 3, eq_ix4 x⟩
    obtain rfl : n = 0 := Subsingleton.elim _ _
    dsimp only
    rw [emb_eq]
  · rw [outUpper_eq, outLower_apply, upper_plane]
    pointwise
    trace_state
  · rw [outLower_apply, lower_plane]
    pointwise
    trace_state

/-! ## The arrays -/

variable (m : (ℓ : Loc nD τ sig) → Buf (Elt Ideal) ℓ) (c : Dev nD)

/-- The argument array. -/
abbrev arg : Vec Ideal S32x56x56x256 .f32 := m (c.tc.loc main_arg0)

/-- The input window's block at each step: both passes go over the batch. -/
theorem index0 : ∀ t : Fin cfg0.N, win0_0.index t = ![t.val % 32, 0, 0, 0] :=
  (by decide +kernel : ∀ t : Fin grid0.N, win0_0.index t = ![t.val % 32, 0, 0, 0])
/-- The output window's block at each step: the second pass goes over the batch. -/
theorem index1 : ∀ t : Fin cfg0.N, win0_1.index t = ![t.val - 32, 0, 0, 0] :=
  (by decide +kernel : ∀ t : Fin grid0.N, win0_1.index t = ![t.val - 32, 0, 0, 0])

/-- An input block is a batch entry of the argument. -/
theorem block_apply (t : Fin cfg0.N) (a b : Fin 56) (ch : Fin 256) :
    blockAt m c t (ix4 0 a b ch) = arg m c (ix4 ⟨t.val % 32, Nat.mod_lt _ (by decide)⟩ a b ch) := by
  blk_ext [blockAt, iblk, V, index0 t]

/-- A step's coordinate is its number. -/
theorem coord : ∀ t : Fin cfg0.N, (grid0.coords t 0).val = t.val :=
  (by decide +kernel : ∀ t : Fin grid0.N, (grid0.coords t 0).val = t.val)

/-- The accumulator after point `n` of the first pass is the sum of the blocks' totals up to it. -/
theorem acc_apply (ch : Fin 256) (n : ℕ) (h : n < cfg0.N) (hn : n < 32) :
    accAfter m c n h (ix2 0 ch) = ∑ k : Fin (n + 1), total (plane (arg m c) ⟨k.val, by omega⟩ ch) := by
  have hb : ∀ (k : ℕ) (hk : k < cfg0.N) (h32 : k < 32), blockPlane (blockAt m c ⟨k, hk⟩) ch = plane (arg m c) ⟨k, h32⟩ ch := by
    intro k hk h32
    funext a b
    refine (block_apply m c ⟨k, hk⟩ a b ch).trans ?_
    unfold plane
    congr 1
    congr 1
    exact Fin.ext (Nat.mod_eq_of_lt h32)
  induction n with
  | zero =>
    rw [accAfter, accStep_apply _ _ _ _ (rowSums_apply _ _ fun a b => imgRead_apply _ a b ch), if_pos (coord_zero h), hb 0 h hn]
    simp
  | succ n ih =>
    rw [accAfter, if_pos hn, accStep_apply _ _ _ _ (rowSums_apply _ _ fun a b => imgRead_apply _ a b ch), coord, if_neg (by simp),
      ih (by omega) (by omega), hb (n + 1) h hn, Fin.sum_univ_castSucc (n := n + 1)]
    rfl

/-- The threshold is the mean gradient of all windows. -/
theorem thresh_apply : threshold (accEnd m c) = thresh (arg m c) := by
  rw [threshold_apply]
  unfold thresh accEnd
  simp only [acc_apply m c _ 31 _ (by decide)]
  rw [Finset.sum_comm]

/-- A flushed block's plane is its batch entry's. -/
theorem flushed_plane (t : Fin cfg0.N) (ht : 32 ≤ t.val) (n : Fin 32) (hn : n.val = t.val - 32) (ch : Fin 256) :
    blockPlane (blockAt m c t) ch = plane (arg m c) n ch := by
  have : t.val < 64 := t.isLt
  funext a b
  refine (block_apply m c t a b ch).trans ?_
  unfold plane
  congr 1
  congr 1
  exact Fin.ext (by show t.val % 32 = n.val; omega)

/-- The output array after the run. -/
theorem final :
    (dats m 0 c).arrAt 1 cfg0.N = (fun y => pooled (plane (arg m c) (y 0) (y 3)) (thresh (arg m c)) (y 1).val (y 2).val : Vec Ideal S32x29x29x256 .f32) := by
  refine (dats m 0 c).arrAt_eq_of_covers 1 _ (by decide +kernel) fun t hf y => ?_
  have ht : 32 ≤ t.val := of_decide_eq_true ((flush_iff t).symm.trans hf)
  blk_simp
  rw [after_out, out_apply, thresh_apply]
  have h0 : (y 0).val < 1 := (y 0).isLt
  have e3 : (win0_1.blk t).view.emb y 3 = y 3 := Fin.ext (by blk_simp [index1])
  rw [flushed_plane m c t ht ((win0_1.blk t).view.emb y 0) (by blk_simp [index1]) (y 3), e3]
  congr 1 <;> blk_simp [index1]

end Cert.Proof.KernelValue

end
-- ==== Proof.WindowCount.lean ====
/- The arithmetic by which the two programs' sums over windows, means, maxima and comparisons agree. -/
module

public import proofs.«01_k».proof.Proof.Spec

@[expose] public section

noncomputable section

namespace Cert.Proof.WindowCount

open Idealize.ShloMosaic Cert.Proof.Spec

/-! ## Counting how often windows cover a position -/

section Cover

variable {M : Type*} [AddCommMonoid M]

/-- A sequence of 58 entries behind two zeros, and zero past its end. -/
def padSeq (g : ℕ → M) (a : ℕ) : M := if 2 ≤ a ∧ a - 2 < 58 then g (a - 2) else 0

/-- The sum over all entries of the 29 windows of three at stride two. -/
def cover (p : ℕ → M) : M :=
  (∑ b : Fin 29, p (2 * b.val)) + (∑ b : Fin 29, p (1 + 2 * b.val)) + ∑ b : Fin 29, p (2 + 2 * b.val)

/-- Even entries twice, odd ones and the entry 56 once. -/
def wsum (g : ℕ → M) : M :=
  (∑ k : Fin 28, g (2 * k.val) + ∑ k : Fin 28, g (2 * k.val)) + (∑ k : Fin 28, g (2 * k.val + 1)) + g 56

/-- The windows over a padded sequence cover it with these multiplicities. -/
theorem cover_padSeq (g : ℕ → M) : cover (padSeq g) = wsum g := by
  have h0 : ∑ b : Fin 29, padSeq g (2 * b.val) = ∑ k : Fin 28, g (2 * k.val) := by
    rw [Fin.sum_univ_succ, show padSeq g (2 * (0 : Fin 29).val) = 0 from if_neg (by simp), zero_add]
    refine Finset.sum_congr rfl fun k _ => ?_
    have := k.isLt
    rw [padSeq, if_pos (by rw [Fin.val_succ]; omega)]
    congr 1
  have h1 : ∑ b : Fin 29, padSeq g (1 + 2 * b.val) = ∑ k : Fin 28, g (2 * k.val + 1) := by
    rw [Fin.sum_univ_succ, show padSeq g (1 + 2 * (0 : Fin 29).val) = 0 from if_neg (by simp), zero_add]
    refine Finset.sum_congr rfl fun k _ => ?_
    have := k.isLt
    rw [padSeq, if_pos (by rw [Fin.val_succ]; omega)]
    congr 1
    rw [Fin.val_succ]; omega
  have h2 : ∑ b : Fin 29, padSeq g (2 + 2 * b.val) = (∑ k : Fin 28, g (2 * k.val)) + g 56 := by
    rw [Fin.sum_univ_castSucc, show padSeq g (2 + 2 * (Fin.last 28).val) = g 56 from rfl]
    refine congrArg (· + g 56) (Finset.sum_congr rfl fun k _ => ?_)
    have := k.isLt
    rw [padSeq, if_pos (by rw [Fin.val_castSucc]; omega), Fin.val_castSucc, Nat.add_sub_cancel_left]
  rw [cover, h0, h1, h2, wsum]
  abel

/-- Covering a padded family is padding the covered family. -/
theorem cover_padSeq_apply (g : ℕ → ℕ → M) (c : ℕ) :
    cover (fun r => padSeq (fun b => padSeq (fun a => g a b) r) c) = padSeq (fun b => wsum fun a => g a b) c := by
  by_cases h : 2 ≤ c ∧ c - 2 < 58
  · simp only [padSeq, if_pos h]
    exact cover_padSeq fun a => g a (c - 2)
  · simp only [padSeq, if_neg h]
    simp [cover]

/-- The windows of nine cells, their cells numbered row by row, as windows of columns over windows of rows. -/
theorem nine_cells (p : ℕ → ℕ → M) :
    ∑ k : Fin 9, ∑ a : Fin 29, ∑ b : Fin 29, p (k.val / 3 + 2 * a.val) (k.val % 3 + 2 * b.val)
      = cover fun c => cover fun r => p r c := by
  rw [Finset.sum_congr rfl fun k _ => Finset.sum_comm]
  simp only [cover, Finset.sum_add_distrib]
  simp only [Fin.sum_univ_succ (n := 8), Fin.sum_univ_eight, Fin.val_succ, Fin.val_zero]
  simp
  abel

/-- The sum over all windows of a twice padded family. -/
theorem sum_windows (g : ℕ → ℕ → M) :
    ∑ k : Fin 9, ∑ a : Fin 29, ∑ b : Fin 29,
        padSeq (fun b => padSeq (fun a => g a b) (k.val / 3 + 2 * a.val)) (k.val % 3 + 2 * b.val)
      = wsum fun b => wsum fun a => g a b := by
  rw [nine_cells fun r c => padSeq (fun b => padSeq (fun a => g a b) r) c]
  simp only [cover_padSeq_apply]
  exact cover_padSeq _

/-- A sum over an even number of terms, even and odd ones apart. -/
theorem sum_even_odd (f : ℕ → M) (n : ℕ) :
    ∑ j ∈ Finset.range (2 * n), f j = ∑ k ∈ Finset.range n, f (2 * k) + ∑ k ∈ Finset.range n, f (2 * k + 1) := by
  induction n with
  | zero => simp
  | succ n ih =>
    rw [show 2 * (n + 1) = 2 * n + 1 + 1 by ring, Finset.sum_range_succ, Finset.sum_range_succ, ih,
      Finset.sum_range_succ, Finset.sum_range_succ]
    abel

end Cover

/-! ## The extended reals -/

/-- Doubling is adding twice, at every extended real. -/
theorem two_mul_eq (u : EReal) : 2 * u = u + u := by
  rw [← one_add_one_eq_two, EReal.right_distrib_of_nonneg zero_le_one zero_le_one, one_mul]

/-- The same with the factor on the right. -/
theorem mul_two_eq (u : EReal) : u * 2 = u + u := by rw [mul_comm, two_mul_eq]

/-- The weights give the multiplicities. -/
theorem sum_weight (f : ℕ → EReal) : ∑ j : Fin 58, f j.val * weight j.val = wsum f := by
  rw [Fin.sum_univ_eq_sum_range (fun j => f j * weight j) 58, show 58 = 2 * 28 + 1 + 1 from rfl,
    Finset.sum_range_succ, Finset.sum_range_succ, sum_even_odd]
  have he : ∀ k ∈ Finset.range 28, f (2 * k) * weight (2 * k) = f (2 * k) + f (2 * k) := fun k hk => by
    have := Finset.mem_range.1 hk
    rw [weight, if_neg (by omega), if_neg (by omega), if_pos (by omega), mul_two_eq]
  have ho : ∀ k ∈ Finset.range 28, f (2 * k + 1) * weight (2 * k + 1) = f (2 * k + 1) := fun k hk => by
    have := Finset.mem_range.1 hk
    rw [weight, if_neg (by omega), if_neg (by omega), if_neg (by omega), mul_one]
  rw [Finset.sum_congr rfl he, Finset.sum_congr rfl ho, Finset.sum_add_distrib, wsum,
    Fin.sum_univ_eq_sum_range (fun k => f (2 * k)) 28, Fin.sum_univ_eq_sum_range (fun k => f (2 * k + 1)) 28,
    show weight (2 * 28) = 1 from by simp [weight], show weight (2 * 28 + 1) = 0 from by simp [weight], mul_one, mul_zero, add_zero]

/-- A plane's total as multiplicities of columns and rows. -/
theorem total_eq (x : Plane) : total x = wsum fun b => wsum fun a => grad x a b := by
  rw [total, sum_weight]
  congr 1
  funext b
  rw [colSum, wsum, two_mul_eq]

/-- Dividing a double by a positive real is doubling the quotient. -/
theorem div_double (s : EReal) : Ideal.div (s + s) Spec.count = Ideal.div s Spec.count + Ideal.div s Spec.count := by
  have h : Spec.count ≠ 0 := EReal.coe_ne_zero.2 (by norm_num)
  rw [Ideal.div, Ideal.div, if_neg h, if_neg h, ← two_mul_eq, mul_assoc, two_mul_eq]

/-- Doubles compare as their halves do. -/
theorem double_lt_double (t c : EReal) : t + t < c + c ↔ t < c :=
  ⟨fun h => lt_of_not_ge fun hc => absurd h (not_lt.2 (add_le_add hc hc)), fun h => EReal.add_lt_add h h⟩

/-- Dividing by nine is multiplying by its inverse. -/
theorem div_nine (s : EReal) : Ideal.div s ((9 : ℝ) : EReal) = s * ((9⁻¹ : ℝ) : EReal) := by
  rw [Ideal.div, if_neg (EReal.coe_ne_zero.2 (by norm_num)), EReal.coe_inv]

/-- The nine cells of a window summed. -/
theorem nine_sum (x : Plane) (i j : ℕ) :
    ∑ k : Fin 9, img x (k.val / 3 + 2 * i) (k.val % 3 + 2 * j)
      = rowSum x i (2 * j) + rowSum x i (2 * j + 1) + rowSum x i (2 * j + 2) := by
  simp only [Fin.sum_univ_succ (n := 8), Fin.sum_univ_eight, Fin.val_succ, Fin.val_zero]
  simp [rowSum, Nat.add_comm]
  abel

/-- The nine cells of a window, their maximum. -/
theorem nine_max (x : Plane) (i j : ℕ) :
    Finset.fold max ⊥ (fun k : Fin 9 => img x (k.val / 3 + 2 * i) (k.val % 3 + 2 * j)) Finset.univ = winMax x i j := by
  rw [show (Finset.univ : Finset (Fin 9)) = {0, 1, 2, 3, 4, 5, 6, 7, 8} from rfl]
  simp [winMax, rowMax, Nat.add_comm]
  ac_rfl

end Cert.Proof.WindowCount

end
-- ==== Proof.ReferenceStages.lean ====
/- The reference's term, named by its stages and read at an index. -/
module

public import proofs.«01_k».proof.Proof.WindowCount
public import proofs.«01_k».proof.Proof.Gen.ReferenceIdeal.Run
public import Idealize.ShloMosaic.Lib.Pointwise

@[expose] public section

noncomputable section

namespace Cert.Proof.ReferenceStages

open Cert.ReferenceIdeal Cert.ReferenceIdeal.Gen Cert.ReferenceIdeal.Value Idealize.ShloMosaic Idealize.ShloMosaic.TcCoe
open Cert.Proof.Spec Cert.Proof.WindowCount

/-! ## The stages -/

variable (X : FVec Ideal S32x56x56x256 .f32)

/-- The image, channels first, with two zeros on each side. -/
def padImg : FVec Ideal S32x256x60x60 .f32 :=
  pad S32x256x60x60 ![0, 0, 2, 2] ![0, 0, 2, 2] ![0, 0, 0, 0] (transpose S32x256x56x56 [0, 3, 1, 2] X transposes_S32x56x56x256_S32x256x56x56_0_3_1_2) (sitofp .f32 (constantI S_ 32 0#32)) pads_S32x256x56x56_S32x256x60x60_000_000_220_220 h_S_

/-- Twice the gradient's magnitude. -/
def edges : FVec Ideal S32x256x58x58 .f32 :=
  mulf (broadcastInDim S32x256x58x58 ![] bcast_S_S32x256x58x58 (constant S_ .f32 0x40000000#32)) (addf (Host.absf (subf (extractStridedSlice S32x256x58x58 ![0, 0, 2, 2] (padImg X) slices_S32x256x60x60_S32x256x58x58_0_0_2_2) (extractStridedSlice S32x256x58x58 ![0, 0, 0, 2] (padImg X) slices_S32x256x60x60_S32x256x58x58_0_0_0_2))) (Host.absf (subf (extractStridedSlice S32x256x58x58 ![0, 0, 2, 2] (padImg X) slices_S32x256x60x60_S32x256x58x58_0_0_2_2) (extractStridedSlice S32x256x58x58 ![0, 0, 2, 0] (padImg X) slices_S32x256x60x60_S32x256x58x58_0_0_2_0))))

/-- The edges with two zeros on each side. -/
def padEdges : FVec Ideal S32x256x62x62 .f32 :=
  pad S32x256x62x62 ![0, 0, 2, 2] ![0, 0, 2, 2] ![0, 0, 0, 0] (edges X) (sitofp .f32 (constantI S_ 32 0#32)) pads_S32x256x58x58_S32x256x62x62_000_000_220_220 h_S_

/-- One cell of every window, as a slab of the stack. -/
def cell (v : FVec Ideal S32x256x29x29 .f32) : FVec Ideal S1x32x256x29x29 .f32 :=
  broadcastInDim S1x32x256x29x29 ![1, 2, 3, 4] bcast_S32x256x29x29_S1x32x256x29x29_1_2_3_4 v

/-- The nine cells of the image's windows. -/
def imgCells : FVec Ideal S9x32x256x29x29 .f32 :=
  fn_main_v41 (F := Ideal)
    (cell (Host.slice S32x256x29x29 ![0, 0, 0, 0] ![1, 1, 2, 2] (padImg X) slicesBy_S32x256x60x60_S32x256x29x29_0s1_0s1_0s2_0s2))
    (cell (Host.slice S32x256x29x29 ![0, 0, 0, 1] ![1, 1, 2, 2] (padImg X) slicesBy_S32x256x60x60_S32x256x29x29_0s1_0s1_0s2_1s2))
    (cell (Host.slice S32x256x29x29 ![0, 0, 0, 2] ![1, 1, 2, 2] (padImg X) slicesBy_S32x256x60x60_S32x256x29x29_0s1_0s1_0s2_2s2))
    (cell (Host.slice S32x256x29x29 ![0, 0, 1, 0] ![1, 1, 2, 2] (padImg X) slicesBy_S32x256x60x60_S32x256x29x29_0s1_0s1_1s2_0s2))
    (cell (Host.slice S32x256x29x29 ![0, 0, 1, 1] ![1, 1, 2, 2] (padImg X) slicesBy_S32x256x60x60_S32x256x29x29_0s1_0s1_1s2_1s2))
    (cell (Host.slice S32x256x29x29 ![0, 0, 1, 2] ![1, 1, 2, 2] (padImg X) slicesBy_S32x256x60x60_S32x256x29x29_0s1_0s1_1s2_2s2))
    (cell (Host.slice S32x256x29x29 ![0, 0, 2, 0] ![1, 1, 2, 2] (padImg X) slicesBy_S32x256x60x60_S32x256x29x29_0s1_0s1_2s2_0s2))
    (cell (Host.slice S32x256x29x29 ![0, 0, 2, 1] ![1, 1, 2, 2] (padImg X) slicesBy_S32x256x60x60_S32x256x29x29_0s1_0s1_2s2_1s2))
    (cell (Host.slice S32x256x29x29 ![0, 0, 2, 2] ![1, 1, 2, 2] (padImg X) slicesBy_S32x256x60x60_S32x256x29x29_0s1_0s1_2s2_2s2))

/-- The nine cells of the edges' windows. -/
def edgeCells : FVec Ideal S9x32x256x29x29 .f32 :=
  fn_main_v51 (F := Ideal)
    (cell (Host.slice S32x256x29x29 ![0, 0, 0, 0] ![1, 1, 2, 2] (padEdges X) slicesBy_S32x256x62x62_S32x256x29x29_0s1_0s1_0s2_0s2))
    (cell (Host.slice S32x256x29x29 ![0, 0, 0, 1] ![1, 1, 2, 2] (padEdges X) slicesBy_S32x256x62x62_S32x256x29x29_0s1_0s1_0s2_1s2))
    (cell (Host.slice S32x256x29x29 ![0, 0, 0, 2] ![1, 1, 2, 2] (padEdges X) slicesBy_S32x256x62x62_S32x256x29x29_0s1_0s1_0s2_2s2))
    (cell (Host.slice S32x256x29x29 ![0, 0, 1, 0] ![1, 1, 2, 2] (padEdges X) slicesBy_S32x256x62x62_S32x256x29x29_0s1_0s1_1s2_0s2))
    (cell (Host.slice S32x256x29x29 ![0, 0, 1, 1] ![1, 1, 2, 2] (padEdges X) slicesBy_S32x256x62x62_S32x256x29x29_0s1_0s1_1s2_1s2))
    (cell (Host.slice S32x256x29x29 ![0, 0, 1, 2] ![1, 1, 2, 2] (padEdges X) slicesBy_S32x256x62x62_S32x256x29x29_0s1_0s1_1s2_2s2))
    (cell (Host.slice S32x256x29x29 ![0, 0, 2, 0] ![1, 1, 2, 2] (padEdges X) slicesBy_S32x256x62x62_S32x256x29x29_0s1_0s1_2s2_0s2))
    (cell (Host.slice S32x256x29x29 ![0, 0, 2, 1] ![1, 1, 2, 2] (padEdges X) slicesBy_S32x256x62x62_S32x256x29x29_0s1_0s1_2s2_1s2))
    (cell (Host.slice S32x256x29x29 ![0, 0, 2, 2] ![1, 1, 2, 2] (padEdges X) slicesBy_S32x256x62x62_S32x256x29x29_0s1_0s1_2s2_2s2))

/-- The mean of the edges over all windows. -/
def meanEdge : FVec Ideal S_ .f32 :=
  Host.divf (Host.reduceAdd (edgeCells X) (constant S_ .f32 0x00000000#32) reducesTo_S9x32x256x29x29_S_d0_1_2_3_4 h_S_) (constant S_ .f32 0x4C6C8800#32)

/-- Each window's central edge. -/
def middle : FVec Ideal S32x256x29x29 .f32 :=
  shapeCast _ (extractStridedSlice S1x32x256x29x29 ![4, 0, 0, 0, 0] (edgeCells X) slices_S9x32x256x29x29_S1x32x256x29x29_4_0_0_0_0) shapeCasts_S1x32x256x29x29_S32x256x29x29

/-- Each window's maximum. -/
def tops : FVec Ideal S32x256x29x29 .f32 :=
  Host.reduce FloatOps.maximumf (imgCells X) (constant S_ .f32 0xFF800000#32) reducesTo_S9x32x256x29x29_S32x256x29x29_d0 h_S_

/-- Each window's mean. -/
def means : FVec Ideal S32x256x29x29 .f32 :=
  Host.divf (Host.reduceAdd (imgCells X) (constant S_ .f32 0x00000000#32) reducesTo_S9x32x256x29x29_S32x256x29x29_d0 h_S_) (broadcastInDim S32x256x29x29 ![] bcast_S_S32x256x29x29 (constant S_ .f32 0x41100000#32))

/-- The reference's result. -/
def result : FVec Ideal S32x29x29x256 .f32 :=
  transpose S32x29x29x256 [0, 2, 3, 1] (select (cmpf .ogt (middle X) (broadcastInDim S32x256x29x29 ![] bcast_S_S32x256x29x29 (meanEdge X))) (tops X) (means X)) transposes_S32x256x29x29_S32x29x29x256_0_2_3_1

set_option maxRecDepth 8192 in
/-- The generated term is these stages. -/
theorem result_eq (m : (ℓ : Loc nD τ sig) → Buf (Elt Ideal) ℓ) (c : Dev nD) :
    res_main_v63 (F := Ideal) m c = result (m ((c.tc : Thread nD τ).loc main_arg0)) := by
  unfold res_main_v63; rfl

/-! ## Reading padded arrays and stacks -/

/-- The integer zero the padding converts is the extended real zero. -/
theorem zero_int : FloatOps.sitofp (F := Ideal) .f32 (0#32 : BitVec 32) = 0 := by
  show (((0#32 : BitVec 32).toInt : ℝ) : EReal) = 0
  simp

/-- A plane read under the padding's condition. -/
theorem img_of (x : Plane) (a b : ℕ) :
    (if h : (2 ≤ a ∧ a - 2 < 56) ∧ 2 ≤ b ∧ b - 2 < 56 then x ⟨a - 2, h.1.2⟩ ⟨b - 2, h.2.2⟩ else 0) = img x a b := by
  by_cases h : (2 ≤ a ∧ a - 2 < 56) ∧ 2 ≤ b ∧ b - 2 < 56
  · rw [dif_pos h, img_in x (by omega) (by omega)]
  · rw [dif_neg h, img_out x (by omega)]

/-- The gradient with two zeros on each side. -/
def border (x : Plane) (a b : ℕ) : EReal := padSeq (fun b => padSeq (fun a => grad x a b) a) b

/-- The bordered gradient by cases. -/
theorem border_eq (x : Plane) (a b : ℕ) :
    border x a b = if 2 ≤ b ∧ b - 2 < 58 then (if 2 ≤ a ∧ a - 2 < 58 then grad x (a - 2) (b - 2) else 0) else 0 := rfl

/-- The gradient read under the padding's condition. -/
theorem border_of (x : Plane) (a b : ℕ) :
    (if (2 ≤ a ∧ a - 2 < 58) ∧ 2 ≤ b ∧ b - 2 < 58 then 2 * grad x (a - 2) (b - 2) else 0) = 2 * border x a b := by
  rw [border_eq]
  by_cases hb : 2 ≤ b ∧ b - 2 < 58
  · by_cases ha : 2 ≤ a ∧ a - 2 < 58
    · rw [if_pos ⟨ha, hb⟩, if_pos hb, if_pos ha]
    · rw [if_neg fun h => ha h.1, if_pos hb, if_neg ha, mul_zero]
  · rw [if_neg fun h => hb h.2, if_neg hb, mul_zero]

/-- The middle of a window of the bordered gradient. -/
theorem border_center (x : Plane) {a b : ℕ} (ha : a < 29) (hb : b < 29) : border x (1 + 2 * a) (1 + 2 * b) = center x a b := by
  rw [border_eq, center]
  by_cases hb : b < 1
  · rw [if_neg (by omega), if_pos hb]
  · rw [if_pos (by omega), if_neg hb]
    by_cases ha : a < 1
    · rw [if_neg (by omega), if_pos ha]
    · rw [if_pos (by omega), if_neg ha, show 1 + 2 * a - 2 = 2 * a - 1 by omega, show 1 + 2 * b - 2 = 2 * b - 1 by omega]

/-- A stack of nine slabs read at slab `k`. -/
theorem ladder (g : ℕ → ℕ → EReal) (k : Fin 9) (a b : ℕ) :
    (if k.val < 1 then g (2 * a) (2 * b)
    else if k.val - 1 < 1 then g (2 * a) (1 + 2 * b)
    else if k.val - 1 - 1 < 1 then g (2 * a) (2 + 2 * b)
    else if k.val - 1 - 1 - 1 < 1 then g (1 + 2 * a) (2 * b)
    else if k.val - 1 - 1 - 1 - 1 < 1 then g (1 + 2 * a) (1 + 2 * b)
    else if k.val - 1 - 1 - 1 - 1 - 1 < 1 then g (1 + 2 * a) (2 + 2 * b)
    else if k.val - 1 - 1 - 1 - 1 - 1 - 1 < 1 then g (2 + 2 * a) (2 * b)
    else if k.val - 1 - 1 - 1 - 1 - 1 - 1 - 1 < 1 then g (2 + 2 * a) (1 + 2 * b)
    else g (2 + 2 * a) (2 + 2 * b)) = g (k.val / 3 + 2 * a) (k.val % 3 + 2 * b) := by
  fin_cases k <;> simp

/-! ## The stages at an index -/

/-- The padded image is `img` of the plane. -/
theorem padImg_apply (n : Fin 32) (ch : Fin 256) (a b : Fin 60) :
    padImg X (ix4 n ch a b) = img (plane X n ch) a.val b.val := by
  pointwise [padImg, zero_int]
  exact img_of (plane X n ch) a.val b.val

/-- The edges are twice the gradient. -/
theorem edges_apply (n : Fin 32) (ch : Fin 256) (a b : Fin 58) :
    edges X (ix4 n ch a b) = 2 * grad (plane X n ch) a.val b.val := by
  pointwise [edges, padImg_apply]
  rw [word_two, absf_eq, absf_eq, grad, Nat.add_comm 2 a.val, Nat.add_comm 2 b.val]

/-- The padded edges are twice the padded gradient. -/
theorem padEdges_apply (n : Fin 32) (ch : Fin 256) (a b : Fin 62) :
    padEdges X (ix4 n ch a b) = 2 * border (plane X n ch) a.val b.val := by
  pointwise [padEdges, edges_apply, zero_int]
  exact border_of _ _ _

/-- The window cell numbered `k` is in row `k / 3` and column `k % 3`. -/
theorem imgCells_apply (k : Fin 9) (n : Fin 32) (ch : Fin 256) (a b : Fin 29) :
    imgCells X (ix5 k n ch a b) = img (plane X n ch) (k.val / 3 + 2 * a.val) (k.val % 3 + 2 * b.val) := by
  pointwise [imgCells, fn_main_v41, cell, padImg_apply]
  exact ladder _ _ _ _

/-- The same of the edges' cells. -/
theorem edgeCells_apply (k : Fin 9) (n : Fin 32) (ch : Fin 256) (a b : Fin 29) :
    edgeCells X (ix5 k n ch a b) = 2 * border (plane X n ch) (k.val / 3 + 2 * a.val) (k.val % 3 + 2 * b.val) := by
  pointwise [edgeCells, fn_main_v51, cell, padEdges_apply]
  exact ladder (fun r c => 2 * border (plane X n ch) r c) _ _ _

/-- The middle cell is the one numbered four. -/
theorem middle_apply (n : Fin 32) (ch : Fin 256) (a b : Fin 29) :
    middle X (ix4 n ch a b) = center (plane X n ch) a.val b.val + center (plane X n ch) a.val b.val := by
  have h : middle X (ix4 n ch a b) = edgeCells X (ix5 4 n ch a b) := by pointwise [middle]
  rw [h, edgeCells_apply, two_mul_eq, show (4 : Fin 9).val / 3 = 1 from rfl, show (4 : Fin 9).val % 3 = 1 from rfl, border_center _ a.isLt b.isLt]

/-- The maxima of the windows. -/
theorem tops_apply (n : Fin 32) (ch : Fin 256) (a b : Fin 29) :
    tops X (ix4 n ch a b) = winMax (plane X n ch) a.val b.val := by
  pointwise [tops, imgCells_apply]
  rw [word_bot]
  exact nine_max _ _ _

/-- The means of the windows. -/
theorem means_apply (n : Fin 32) (ch : Fin 256) (a b : Fin 29) :
    means X (ix4 n ch a b) = winMean (plane X n ch) a.val b.val := by
  pointwise [means, imgCells_apply]
  rw [word_nine, div_nine, nine_sum, winMean]

/-- The windows' edges sum to each plane's total, twice. -/
theorem sum_edgeCells :
    ∑ i, edgeCells X i = (∑ n : Fin 32, ∑ ch : Fin 256, total (plane X n ch)) + ∑ n : Fin 32, ∑ ch : Fin 256, total (plane X n ch) := by
  rw [sum_idx5 (edgeCells X), Finset.sum_comm, ← Finset.sum_add_distrib]
  refine Finset.sum_congr rfl fun n _ => ?_
  rw [Finset.sum_comm, ← Finset.sum_add_distrib]
  refine Finset.sum_congr rfl fun ch _ => ?_
  simp only [edgeCells_apply, two_mul_eq, Finset.sum_add_distrib]
  rw [total_eq]
  exact congrArg₂ (· + ·) (sum_windows _) (sum_windows _)

/-- The mean edge is twice the threshold. -/
theorem meanEdge_apply (j : S_.Idx) : meanEdge X j = thresh X + thresh X := by
  pointwise [meanEdge]
  rw [Ideal.hostReduceAdd_total _ (fun b => b.elim0), zero_add, sum_edgeCells, word_count, div_double, thresh]

/-- The reference's result is the gated pooling of each plane. -/
theorem result_apply (n : Fin 32) (a b : Fin 29) (ch : Fin 256) :
    result X (ix4 n a b ch) = pooled (plane X n ch) (thresh X) a.val b.val := by
  pointwise [result, middle_apply, tops_apply, means_apply, meanEdge_apply]
  rw [pooled]
  simp only [double_lt_double]

end Cert.Proof.ReferenceStages

end
-- ==== Proof.Reference.lean ====
/- The reference's run: it ends with the gated pooling of its argument, the argument unchanged and no counter raised. -/
module

public import proofs.«01_k».proof.Proof.ReferenceStages
public import Idealize.ShloMosaic.Lib.Quiescent

@[expose] public section

noncomputable section

namespace Cert.Proof.Reference

open Cert.ReferenceIdeal Cert.ReferenceIdeal.Gen Cert.ReferenceIdeal.Value Idealize.ShloMosaic Idealize.ShloMosaic.TcCoe Idealize.SL.Sem
open Cert.Proof.Spec Cert.Proof.ReferenceStages

/-- The result array, from any argument array. -/
theorem result_pooled (X : FVec Ideal S32x56x56x256 .f32) :
    result X = fun y => pooled (plane X (y 0) (y 3)) (thresh X) (y 1).val (y 2).val := by
  funext y
  conv_lhs => rw [eq_ix4 y]
  exact result_apply X (y 0) (y 1) (y 2) (y 3)

variable (m : (ℓ : Loc nD τ sig) → Buf (Elt Ideal) ℓ) (ρ : Dev nD → PrngReg)

/-- Every run ends with the gated pooling of the argument, and the argument unchanged. -/
theorem run : θ_run defs (onTc (τ := τ) (main (F := Ideal))) ⟨m, fun _ => 0, ρ⟩ (fun r => ∀ c : Dev nD,
      r.2.mem ((c.tc : Thread nD τ).loc main_v63)
        = (fun y => pooled (plane (m ((c.tc : Thread nD τ).loc main_arg0)) (y 0) (y 3)) (thresh (m ((c.tc : Thread nD τ).loc main_arg0)))
            (y 1).val (y 2).val : FVec Ideal S32x29x29x256 .f32)
      ∧ r.2.mem ((c.tc : Thread nD τ).loc main_arg0) = m ((c.tc : Thread nD τ).loc main_arg0)) :=
  (θ_run defs _ _).mono (fun _ h c => ⟨(h c).1.trans ((result_eq m c).trans (result_pooled _)), (h c).2⟩) (Value.run m ρ)

/-- The frame: the argument ends unchanged; the program declares no semaphore, so every counter reads zero. -/
theorem frame : θ_run defs (onTc (τ := τ) (main (F := Ideal))) ⟨m, fun _ => 0, ρ⟩ (fun r => (∀ c : Dev nD,
      r.2.mem ((c.tc : Thread nD τ).loc main_arg0) = m ((c.tc : Thread nD τ).loc main_arg0)) ∧ r.2.sem = fun _ => 0) :=
  (θ_run defs _ _).mono (fun r h => ⟨fun c => (h c).2, sem_eq_zero_of_no_sems (by decide) r.2⟩) (Value.run m ρ)

end Cert.Proof.Reference

end
-- ==== Proof.lean ====
module

public import proofs.«01_k».proof.Defs
public import proofs.«01_k».proof.Proof.KernelFrame
public import proofs.«01_k».proof.Proof.KernelValue
public import proofs.«01_k».proof.Proof.Reference
public import Idealize.ShloMosaic.Adequacy
public import Idealize.ShloMosaic.Init

@[expose] public section

noncomputable section

namespace Cert.Proof

open Idealize.ShloMosaic Idealize.ShloMosaic.TcCoe Idealize.SL.Sem Cert.Kernel

/-- The named constant is the inverse of nine wherever the kernel reads it. -/
theorem preserves : Cert.preserves_Kernel_KernelIdeal :=
  IdealRules.named_const.statement Cert.KernelIdeal.κ "ninth" .f32 0x3DE38E39#32 ((9⁻¹ : ℝ) : EReal) rfl

/-- From equal arguments the kernel and the reference end with equal results: the gated pooling of every plane. -/
theorem algebraic : Cert.algebraic_KernelIdeal_ReferenceIdeal := by
  intro m g m' g' _ hag
  refine ⟨fun c y => Spec.pooled (Spec.plane (KernelValue.arg m c) (y 0) (y 3)) (Spec.thresh (KernelValue.arg m c)) (y 1).val (y 2).val, ?_, ?_⟩
  · exact (θ_run _ _ _).mono (fun r h c => ⟨((h.1 c).1).trans (KernelValue.final m c), (h.1 c).2⟩) (IdealFrame.run m g)
  · refine (θ_run _ _ _).mono (fun r h c => ⟨((h c).1).trans ?_, (h c).2⟩) (Reference.run m' g')
    rw [hag c]
    rfl

/-- Every claim. -/
theorem claim : Cert.Claim := ⟨Cert.Kernel.Gen.facts, Cert.KernelIdeal.Gen.facts, Cert.ReferenceIdeal.Gen.facts,
  fun m g _ => KernelFrame.frame m g, fun m g _ => IdealFrame.frame m g, fun m g _ => Reference.frame m g, preserves, algebraic⟩

end Cert.Proof

end
